-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S4096x8192 : Shape := ⟨2, ![4096, 8192]⟩
abbrev S1024x1024 : Shape := ⟨2, ![1024, 1024]⟩
abbrev S_ : Shape := ⟨0, ![]⟩
abbrev S2 : Shape := ⟨1, ![2]⟩
abbrev S1 : Shape := ⟨1, ![1]⟩
abbrev S1024x2048 : Shape := ⟨2, ![1024, 2048]⟩
abbrev S1024x4096 : Shape := ⟨2, ![1024, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S4096x8192, .f32⟩
  | .local _ .vmem, ⟨0, _⟩ => ⟨S1024x1024, .f32⟩
  | .local _ .vmem, ⟨1, _⟩ => ⟨S1024x1024, .bf16⟩
  | .local _ .vmem, ⟨2, _⟩ => ⟨S1024x1024, .bf16⟩
  | .local _ .vmem, ⟨3, _⟩ => ⟨S1024x8192, .bf16⟩
  | .local _ .vmem, ⟨4, _⟩ => ⟨S1024x8192, .bf16⟩
  | .local _ .vmem, ⟨5, _⟩ => ⟨S1024x8192, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_8 : BitVec 32 := 1#32
  let v11 : BitVec 32 := Scalar.muli v4 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v13 : BitVec 32 := Scalar.muli v2 c1024_i32
  let c0_i32_10 : BitVec 32 := 0#32
  ![v13.toNat, 0]
@[reducible] def k0_t1_loop : Scf.Loop 32 :=
  let c0_i32_15 : BitVec 32 := 0#32
  let c2_i32_16 : BitVec 32 := 2#32
  let v21 : BitVec 32 := Scalar.addi c0_i32_15 c2_i32_16
  let c1_i32_17 : BitVec 32 := 1#32
  ⟨c0_i32_15, v21, c1_i32_17⟩
def k0_off2 (k0_t1 : Fin k0_t1_loop.trips) : Fin 2 → Nat :=
  let c0_i32_733 : BitVec 32 := 0#32
  let c0_i32_732 : BitVec 32 := 0#32
  let c0_i32_15 : BitVec 32 := 0#32
  let c1_i32_17 : BitVec 32 := 1#32
  let arg14 : BitVec 32 := Scf.iv c0_i32_15 c1_i32_17 k0_t1
  let c1024_i32_731 : BitVec 32 := 1024#32
  let v529 : BitVec 32 := Scalar.muli arg14 c1024_i32_731
  let v530 : BitVec 32 := Scalar.addi c0_i32_732 v529
  ![0, v530.toNat]
def k0_off3 (k0_t1 : Fin k0_t1_loop.trips) : Fin 2 → Nat :=
  let c0_743 : Index := 0#32
  let c0_i32_732 : BitVec 32 := 0#32
  let c0_i32_15 : BitVec 32 := 0#32
  let c1_i32_17 : BitVec 32 := 1#32
  let arg14 : BitVec 32 := Scf.iv c0_i32_15 c1_i32_17 k0_t1
  let c1024_i32_731 : BitVec 32 := 1024#32
  let v529 : BitVec 32 := Scalar.muli arg14 c1024_i32_731
  let v530 : BitVec 32 := Scalar.addi c0_i32_732 v529
  let v542 : Index := Scalar.indexCast v530
  ![0, v542.toNat]
@[reducible] def k0_t2_loop : Scf.Loop 32 :=
  let c0_i32_19 : BitVec 32 := 0#32
  let c2_i32_20 : BitVec 32 := 2#32
  let v22 : BitVec 32 := Scalar.addi c0_i32_19 c2_i32_20
  let c1_i32_21 : BitVec 32 := 1#32
  ⟨c0_i32_19, v22, c1_i32_21⟩
def k0_off4 (k0_t2 : Fin k0_t2_loop.trips) : Fin 2 → Nat :=
  let c0_i32_733 : BitVec 32 := 0#32
  let c4096_i32_732 : BitVec 32 := 4096#32
  let c0_i32_19 : BitVec 32 := 0#32
  let c1_i32_21 : BitVec 32 := 1#32
  let arg14 : BitVec 32 := Scf.iv c0_i32_19 c1_i32_21 k0_t2
  let c1024_i32_731 : BitVec 32 := 1024#32
  let v529 : BitVec 32 := Scalar.muli arg14 c1024_i32_731
  let v530 : BitVec 32 := Scalar.addi c4096_i32_732 v529
  ![0, v530.toNat]
def k0_off5 (k0_t2 : Fin k0_t2_loop.trips) : Fin 2 → Nat :=
  let c0_743 : Index := 0#32
  let c4096_i32_732 : BitVec 32 := 4096#32
  let c0_i32_19 : BitVec 32 := 0#32
  let c1_i32_21 : BitVec 32 := 1#32
  let arg14 : BitVec 32 := Scf.iv c0_i32_19 c1_i32_21 k0_t2
  let c1024_i32_731 : BitVec 32 := 1024#32
  let v529 : BitVec 32 := Scalar.muli arg14 c1024_i32_731
  let v530 : BitVec 32 := Scalar.addi c4096_i32_732 v529
  let v542 : Index := Scalar.indexCast v530
  ![0, v542.toNat]
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_25 : BitVec 32 := 1#32
  let v23 : BitVec 32 := Scalar.muli v4 c1_i32_25
  let v24 : BitVec 32 := Scalar.addi c0_i32_26 v23
  v24.toNat
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_33 : BitVec 32 := 1#32
  let v31 : BitVec 32 := Scalar.muli v7 c1_i32_33
  let v32 : BitVec 32 := Scalar.addi c0_i32_34 v31
  v32.toNat
@[reducible] def k0_t3_loop : Scf.Loop 32 :=
  let c0_i32_38 : BitVec 32 := 0#32
  let c2_i32_39 : BitVec 32 := 2#32
  let v39 : BitVec 32 := Scalar.addi c0_i32_38 c2_i32_39
  let c1_i32_40 : BitVec 32 := 1#32
  ⟨c0_i32_38, v39, c1_i32_40⟩
def k0_off6 (k0_t3 : Fin k0_t3_loop.trips) : Fin 2 → Nat :=
  let c0_i32_733 : BitVec 32 := 0#32
  let c2048_i32_732 : BitVec 32 := 2048#32
  let c0_i32_38 : BitVec 32 := 0#32
  let c1_i32_40 : BitVec 32 := 1#32
  let arg14 : BitVec 32 := Scf.iv c0_i32_38 c1_i32_40 k0_t3
  let c1024_i32_731 : BitVec 32 := 1024#32
  let v529 : BitVec 32 := Scalar.muli arg14 c1024_i32_731
  let v530 : BitVec 32 := Scalar.addi c2048_i32_732 v529
  ![0, v530.toNat]
def k0_off7 (k0_t3 : Fin k0_t3_loop.trips) : Fin 2 → Nat :=
  let c0_743 : Index := 0#32
  let c2048_i32_732 : BitVec 32 := 2048#32
  let c0_i32_38 : BitVec 32 := 0#32
  let c1_i32_40 : BitVec 32 := 1#32
  let arg14 : BitVec 32 := Scf.iv c0_i32_38 c1_i32_40 k0_t3
  let c1024_i32_731 : BitVec 32 := 1024#32
  let v529 : BitVec 32 := Scalar.muli arg14 c1024_i32_731
  let v530 : BitVec 32 := Scalar.addi c2048_i32_732 v529
  let v542 : Index := Scalar.indexCast v530
  ![0, v542.toNat]
@[reducible] def k0_t4_loop : Scf.Loop 32 :=
  let c0_i32_42 : BitVec 32 := 0#32
  let c2_i32_43 : BitVec 32 := 2#32
  let v40 : BitVec 32 := Scalar.addi c0_i32_42 c2_i32_43
  let c1_i32_44 : BitVec 32 := 1#32
  ⟨c0_i32_42, v40, c1_i32_44⟩
def k0_off8 (k0_t4 : Fin k0_t4_loop.trips) : Fin 2 → Nat :=
  let c0_i32_733 : BitVec 32 := 0#32
  let c6144_i32_732 : BitVec 32 := 6144#32
  let c0_i32_42 : BitVec 32 := 0#32
  let c1_i32_44 : BitVec 32 := 1#32
  let arg14 : BitVec 32 := Scf.iv c0_i32_42 c1_i32_44 k0_t4
  let c1024_i32_731 : BitVec 32 := 1024#32
  let v529 : BitVec 32 := Scalar.muli arg14 c1024_i32_731
  let v530 : BitVec 32 := Scalar.addi c6144_i32_732 v529
  ![0, v530.toNat]
def k0_off9 (k0_t4 : Fin k0_t4_loop.trips) : Fin 2 → Nat :=
  let c0_743 : Index := 0#32
  let c6144_i32_732 : BitVec 32 := 6144#32
  let c0_i32_42 : BitVec 32 := 0#32
  let c1_i32_44 : BitVec 32 := 1#32
  let arg14 : BitVec 32 := Scf.iv c0_i32_42 c1_i32_44 k0_t4
  let c1024_i32_731 : BitVec 32 := 1024#32
  let v529 : BitVec 32 := Scalar.muli arg14 c1024_i32_731
  let v530 : BitVec 32 := Scalar.addi c6144_i32_732 v529
  let v542 : Index := Scalar.indexCast v530
  ![0, v542.toNat]
def k0_dev5 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_48 : BitVec 32 := 1#32
  let v41 : BitVec 32 := Scalar.muli v4 c1_i32_48
  let v42 : BitVec 32 := Scalar.addi c0_i32_49 v41
  v42.toNat
def k0_dev6 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_55 : BitVec 32 := 1#32
  let v49 : BitVec 32 := Scalar.muli v7 c1_i32_55
  let v50 : BitVec 32 := Scalar.addi c0_i32_56 v49
  v50.toNat
def k0_off10 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v57 : BitVec 32 := Scalar.addi v2 c3_i32
  let c4_i32_60 : BitVec 32 := 4#32
  let v58 : BitVec 32 := Scalar.remsi v57 c4_i32_60
  let c1024_i32_61 : BitVec 32 := 1024#32
  let v59 : BitVec 32 := Scalar.muli v58 c1024_i32_61
  let c0_i32_62 : BitVec 32 := 0#32
  ![v59.toNat, 0]
@[reducible] def k0_t5_loop : Scf.Loop 32 :=
  let c0_i32_68 : BitVec 32 := 0#32
  let c4_i32_69 : BitVec 32 := 4#32
  let v67 : BitVec 32 := Scalar.addi c0_i32_68 c4_i32_69
  let c1_i32_70 : BitVec 32 := 1#32
  ⟨c0_i32_68, v67, c1_i32_70⟩
def k0_off11 (k0_t5 : Fin k0_t5_loop.trips) : Fin 2 → Nat :=
  let c0_i32_733 : BitVec 32 := 0#32
  let c0_i32_732 : BitVec 32 := 0#32
  let c0_i32_68 : BitVec 32 := 0#32
  let c1_i32_70 : BitVec 32 := 1#32
  let arg14 : BitVec 32 := Scf.iv c0_i32_68 c1_i32_70 k0_t5
  let c1024_i32_731 : BitVec 32 := 1024#32
  let v529 : BitVec 32 := Scalar.muli arg14 c1024_i32_731
  let v530 : BitVec 32 := Scalar.addi c0_i32_732 v529
  ![0, v530.toNat]
def k0_off12 (k0_t5 : Fin k0_t5_loop.trips) : Fin 2 → Nat :=
  let c0_743 : Index := 0#32
  let c0_i32_732 : BitVec 32 := 0#32
  let c0_i32_68 : BitVec 32 := 0#32
  let c1_i32_70 : BitVec 32 := 1#32
  let arg14 : BitVec 32 := Scf.iv c0_i32_68 c1_i32_70 k0_t5
  let c1024_i32_731 : BitVec 32 := 1024#32
  let v529 : BitVec 32 := Scalar.muli arg14 c1024_i32_731
  let v530 : BitVec 32 := Scalar.addi c0_i32_732 v529
  let v542 : Index := Scalar.indexCast v530
  ![0, v542.toNat]
@[reducible] def k0_t6_loop : Scf.Loop 32 :=
  let c0_i32_81 : BitVec 32 := 0#32
  let c4_i32_82 : BitVec 32 := 4#32
  let v78 : BitVec 32 := Scalar.addi c0_i32_81 c4_i32_82
  let c1_i32_83 : BitVec 32 := 1#32
  ⟨c0_i32_81, v78, c1_i32_83⟩
def k0_off13 (k0_t6 : Fin k0_t6_loop.trips) : Fin 2 → Nat :=
  let c0_i32_733 : BitVec 32 := 0#32
  let c4096_i32_732 : BitVec 32 := 4096#32
  let c0_i32_81 : BitVec 32 := 0#32
  let c1_i32_83 : BitVec 32 := 1#32
  let arg14 : BitVec 32 := Scf.iv c0_i32_81 c1_i32_83 k0_t6
  let c1024_i32_731 : BitVec 32 := 1024#32
  let v529 : BitVec 32 := Scalar.muli arg14 c1024_i32_731
  let v530 : BitVec 32 := Scalar.addi c4096_i32_732 v529
  ![0, v530.toNat]
def k0_off14 (k0_t6 : Fin k0_t6_loop.trips) : Fin 2 → Nat :=
  let c0_743 : Index := 0#32
  let c4096_i32_732 : BitVec 32 := 4096#32
  let c0_i32_81 : BitVec 32 := 0#32
  let c1_i32_83 : BitVec 32 := 1#32
  let arg14 : BitVec 32 := Scf.iv c0_i32_81 c1_i32_83 k0_t6
  let c1024_i32_731 : BitVec 32 := 1024#32
  let v529 : BitVec 32 := Scalar.muli arg14 c1024_i32_731
  let v530 : BitVec 32 := Scalar.addi c4096_i32_732 v529
  let v542 : Index := Scalar.indexCast v530
  ![0, v542.toNat]
@[reducible] def k0_t7_loop : Scf.Loop 32 :=
  let c0_i32_145 : BitVec 32 := 0#32
  let c8_i32 : BitVec 32 := 8#32
  let v119 : BitVec 32 := Scalar.addi c0_i32_145 c8_i32
  let c1_i32_146 : BitVec 32 := 1#32
  ⟨c0_i32_145, v119, c1_i32_146⟩
def k0_off15 (k0_t7 : Fin k0_t7_loop.trips) : Fin 2 → Nat :=
  let c0_732 : Index := 0#32
  let c0_i32_145 : BitVec 32 := 0#32
  let c1_i32_146 : BitVec 32 := 1#32
  let arg14 : BitVec 32 := Scf.iv c0_i32_145 c1_i32_146 k0_t7
  let c1024_i32_731 : BitVec 32 := 1024#32
  let v529 : BitVec 32 := Scalar.muli arg14 c1024_i32_731
  let v530 : Index := Scalar.indexCast v529
  ![0, v530.toNat]
def k0_dev7 (d0 : Dev nD) : Nat :=
  let c0_i32_150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_149 : BitVec 32 := 1#32
  let v120 : BitVec 32 := Scalar.muli v7 c1_i32_149
  let v121 : BitVec 32 := Scalar.addi c0_i32_150 v120
  v121.toNat
def k0_dev8 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_152 : BitVec 32 := 1#32
  let v122 : BitVec 32 := Scalar.muli v4 c1_i32_152
  let v123 : BitVec 32 := Scalar.addi c0_i32_153 v122
  v123.toNat
def k0_dev9 (d0 : Dev nD) : Nat :=
  let c0_i32_159 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_158 : BitVec 32 := 1#32
  let v124 : BitVec 32 := Scalar.muli v4 c1_i32_158
  let v125 : BitVec 32 := Scalar.addi c0_i32_159 v124
  v125.toNat
def k0_dev10 (d0 : Dev nD) : Nat :=
  let c0_i32_167 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_166 : BitVec 32 := 1#32
  let v132 : BitVec 32 := Scalar.muli v7 c1_i32_166
  let v133 : BitVec 32 := Scalar.addi c0_i32_167 v132
  v133.toNat
def k0_dev11 (d0 : Dev nD) : Nat :=
  let c0_i32_175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_174 : BitVec 32 := 1#32
  let v140 : BitVec 32 := Scalar.muli v4 c1_i32_174
  let v141 : BitVec 32 := Scalar.addi c0_i32_175 v140
  v141.toNat
def k0_dev12 (d0 : Dev nD) : Nat :=
  let c0_i32_183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_182 : BitVec 32 := 1#32
  let v148 : BitVec 32 := Scalar.muli v7 c1_i32_182
  let v149 : BitVec 32 := Scalar.addi c0_i32_183 v148
  v149.toNat
@[reducible] def k0_t8_loop : Scf.Loop 32 :=
  let c0_i32_197 : BitVec 32 := 0#32
  let c8_i32_198 : BitVec 32 := 8#32
  let v166 : BitVec 32 := Scalar.addi c0_i32_197 c8_i32_198
  let c1_i32_199 : BitVec 32 := 1#32
  ⟨c0_i32_197, v166, c1_i32_199⟩
def k0_off16 (k0_t8 : Fin k0_t8_loop.trips) : Fin 2 → Nat :=
  let c0_i32_733 : BitVec 32 := 0#32
  let c0_i32_732 : BitVec 32 := 0#32
  let c0_i32_197 : BitVec 32 := 0#32
  let c1_i32_199 : BitVec 32 := 1#32
  let arg14 : BitVec 32 := Scf.iv c0_i32_197 c1_i32_199 k0_t8
  let c1024_i32_731 : BitVec 32 := 1024#32
  let v529 : BitVec 32 := Scalar.muli arg14 c1024_i32_731
  let v530 : BitVec 32 := Scalar.addi c0_i32_732 v529
  ![0, v530.toNat]
def k0_off17 (k0_t8 : Fin k0_t8_loop.trips) : Fin 2 → Nat :=
  let c0_743 : Index := 0#32
  let c0_i32_732 : BitVec 32 := 0#32
  let c0_i32_197 : BitVec 32 := 0#32
  let c1_i32_199 : BitVec 32 := 1#32
  let arg14 : BitVec 32 := Scf.iv c0_i32_197 c1_i32_199 k0_t8
  let c1024_i32_731 : BitVec 32 := 1024#32
  let v529 : BitVec 32 := Scalar.muli arg14 c1024_i32_731
  let v530 : BitVec 32 := Scalar.addi c0_i32_732 v529
  let v542 : Index := Scalar.indexCast v530
  ![0, v542.toNat]
@[reducible] def k0_t9_loop : Scf.Loop 32 :=
  let c0_i32_231 : BitVec 32 := 0#32
  let c2_i32_232 : BitVec 32 := 2#32
  let v187 : BitVec 32 := Scalar.addi c0_i32_231 c2_i32_232
  let c1_i32_233 : BitVec 32 := 1#32
  ⟨c0_i32_231, v187, c1_i32_233⟩
def k0_off18 (k0_t9 : Fin k0_t9_loop.trips) : Fin 2 → Nat :=
  let c0_733 : Index := 0#32
  let c0_i32_732 : BitVec 32 := 0#32
  let c0_i32_231 : BitVec 32 := 0#32
  let c1_i32_233 : BitVec 32 := 1#32
  let arg14 : BitVec 32 := Scf.iv c0_i32_231 c1_i32_233 k0_t9
  let c1024_i32_731 : BitVec 32 := 1024#32
  let v529 : BitVec 32 := Scalar.muli arg14 c1024_i32_731
  let v530 : BitVec 32 := Scalar.addi c0_i32_732 v529
  let v531 : Index := Scalar.indexCast v530
  ![0, v531.toNat]
@[reducible] def k0_t10_loop : Scf.Loop 32 :=
  let c0_i32_235 : BitVec 32 := 0#32
  let c2_i32_236 : BitVec 32 := 2#32
  let v188 : BitVec 32 := Scalar.addi c0_i32_235 c2_i32_236
  let c1_i32_237 : BitVec 32 := 1#32
  ⟨c0_i32_235, v188, c1_i32_237⟩
def k0_off19 (k0_t10 : Fin k0_t10_loop.trips) : Fin 2 → Nat :=
  let c0_733 : Index := 0#32
  let c4096_i32_732 : BitVec 32 := 4096#32
  let c0_i32_235 : BitVec 32 := 0#32
  let c1_i32_237 : BitVec 32 := 1#32
  let arg14 : BitVec 32 := Scf.iv c0_i32_235 c1_i32_237 k0_t10
  let c1024_i32_731 : BitVec 32 := 1024#32
  let v529 : BitVec 32 := Scalar.muli arg14 c1024_i32_731
  let v530 : BitVec 32 := Scalar.addi c4096_i32_732 v529
  let v531 : Index := Scalar.indexCast v530
  ![0, v531.toNat]
@[reducible] def k0_t11_loop : Scf.Loop 32 :=
  let c0_i32_269 : BitVec 32 := 0#32
  let c2_i32_270 : BitVec 32 := 2#32
  let v209 : BitVec 32 := Scalar.addi c0_i32_269 c2_i32_270
  let c1_i32_271 : BitVec 32 := 1#32
  ⟨c0_i32_269, v209, c1_i32_271⟩
def k0_off20 (k0_t11 : Fin k0_t11_loop.trips) : Fin 2 → Nat :=
  let c0_733 : Index := 0#32
  let c2048_i32_732 : BitVec 32 := 2048#32
  let c0_i32_269 : BitVec 32 := 0#32
  let c1_i32_271 : BitVec 32 := 1#32
  let arg14 : BitVec 32 := Scf.iv c0_i32_269 c1_i32_271 k0_t11
  let c1024_i32_731 : BitVec 32 := 1024#32
  let v529 : BitVec 32 := Scalar.muli arg14 c1024_i32_731
  let v530 : BitVec 32 := Scalar.addi c2048_i32_732 v529
  let v531 : Index := Scalar.indexCast v530
  ![0, v531.toNat]
@[reducible] def k0_t12_loop : Scf.Loop 32 :=
  let c0_i32_273 : BitVec 32 := 0#32
  let c2_i32_274 : BitVec 32 := 2#32
  let v210 : BitVec 32 := Scalar.addi c0_i32_273 c2_i32_274
  let c1_i32_275 : BitVec 32 := 1#32
  ⟨c0_i32_273, v210, c1_i32_275⟩
def k0_off21 (k0_t12 : Fin k0_t12_loop.trips) : Fin 2 → Nat :=
  let c0_733 : Index := 0#32
  let c6144_i32_732 : BitVec 32 := 6144#32
  let c0_i32_273 : BitVec 32 := 0#32
  let c1_i32_275 : BitVec 32 := 1#32
  let arg14 : BitVec 32 := Scf.iv c0_i32_273 c1_i32_275 k0_t12
  let c1024_i32_731 : BitVec 32 := 1024#32
  let v529 : BitVec 32 := Scalar.muli arg14 c1024_i32_731
  let v530 : BitVec 32 := Scalar.addi c6144_i32_732 v529
  let v531 : Index := Scalar.indexCast v530
  ![0, v531.toNat]
def k0_dev13 (d0 : Dev nD) : Nat :=
  let c0_i32_279 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_278 : BitVec 32 := 1#32
  let v211 : BitVec 32 := Scalar.muli v7 c1_i32_278
  let v212 : BitVec 32 := Scalar.addi c0_i32_279 v211
  v212.toNat
def k0_dev14 (d0 : Dev nD) : Nat :=
  let c0_i32_282 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_281 : BitVec 32 := 1#32
  let v213 : BitVec 32 := Scalar.muli v4 c1_i32_281
  let v214 : BitVec 32 := Scalar.addi c0_i32_282 v213
  v214.toNat
def k0_dev15 (d0 : Dev nD) : Nat :=
  let c0_i32_288 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_287 : BitVec 32 := 1#32
  let v215 : BitVec 32 := Scalar.muli v4 c1_i32_287
  let v216 : BitVec 32 := Scalar.addi c0_i32_288 v215
  v216.toNat
def k0_dev16 (d0 : Dev nD) : Nat :=
  let c0_i32_296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_295 : BitVec 32 := 1#32
  let v223 : BitVec 32 := Scalar.muli v7 c1_i32_295
  let v224 : BitVec 32 := Scalar.addi c0_i32_296 v223
  v224.toNat
def k0_dev17 (d0 : Dev nD) : Nat :=
  let c0_i32_304 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_303 : BitVec 32 := 1#32
  let v231 : BitVec 32 := Scalar.muli v4 c1_i32_303
  let v232 : BitVec 32 := Scalar.addi c0_i32_304 v231
  v232.toNat
def k0_dev18 (d0 : Dev nD) : Nat :=
  let c0_i32_312 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_311 : BitVec 32 := 1#32
  let v239 : BitVec 32 := Scalar.muli v7 c1_i32_311
  let v240 : BitVec 32 := Scalar.addi c0_i32_312 v239
  v240.toNat
@[reducible] def k0_t13_loop : Scf.Loop 32 :=
  let c0_i32_326 : BitVec 32 := 0#32
  let c4_i32_327 : BitVec 32 := 4#32
  let v257 : BitVec 32 := Scalar.addi c0_i32_326 c4_i32_327
  let c1_i32_328 : BitVec 32 := 1#32
  ⟨c0_i32_326, v257, c1_i32_328⟩
def k0_off22 (k0_t13 : Fin k0_t13_loop.trips) : Fin 2 → Nat :=
  let c0_i32_733 : BitVec 32 := 0#32
  let c0_i32_732 : BitVec 32 := 0#32
  let c0_i32_326 : BitVec 32 := 0#32
  let c1_i32_328 : BitVec 32 := 1#32
  let arg14 : BitVec 32 := Scf.iv c0_i32_326 c1_i32_328 k0_t13
  let c1024_i32_731 : BitVec 32 := 1024#32
  let v529 : BitVec 32 := Scalar.muli arg14 c1024_i32_731
  let v530 : BitVec 32 := Scalar.addi c0_i32_732 v529
  ![0, v530.toNat]
def k0_off23 (k0_t13 : Fin k0_t13_loop.trips) : Fin 2 → Nat :=
  let c0_743 : Index := 0#32
  let c0_i32_732 : BitVec 32 := 0#32
  let c0_i32_326 : BitVec 32 := 0#32
  let c1_i32_328 : BitVec 32 := 1#32
  let arg14 : BitVec 32 := Scf.iv c0_i32_326 c1_i32_328 k0_t13
  let c1024_i32_731 : BitVec 32 := 1024#32
  let v529 : BitVec 32 := Scalar.muli arg14 c1024_i32_731
  let v530 : BitVec 32 := Scalar.addi c0_i32_732 v529
  let v542 : Index := Scalar.indexCast v530
  ![0, v542.toNat]
@[reducible] def k0_t14_loop : Scf.Loop 32 :=
  let c0_i32_339 : BitVec 32 := 0#32
  let c4_i32_340 : BitVec 32 := 4#32
  let v268 : BitVec 32 := Scalar.addi c0_i32_339 c4_i32_340
  let c1_i32_341 : BitVec 32 := 1#32
  ⟨c0_i32_339, v268, c1_i32_341⟩
def k0_off24 (k0_t14 : Fin k0_t14_loop.trips) : Fin 2 → Nat :=
  let c0_i32_733 : BitVec 32 := 0#32
  let c4096_i32_732 : BitVec 32 := 4096#32
  let c0_i32_339 : BitVec 32 := 0#32
  let c1_i32_341 : BitVec 32 := 1#32
  let arg14 : BitVec 32 := Scf.iv c0_i32_339 c1_i32_341 k0_t14
  let c1024_i32_731 : BitVec 32 := 1024#32
  let v529 : BitVec 32 := Scalar.muli arg14 c1024_i32_731
  let v530 : BitVec 32 := Scalar.addi c4096_i32_732 v529
  ![0, v530.toNat]
def k0_off25 (k0_t14 : Fin k0_t14_loop.trips) : Fin 2 → Nat :=
  let c0_743 : Index := 0#32
  let c4096_i32_732 : BitVec 32 := 4096#32
  let c0_i32_339 : BitVec 32 := 0#32
  let c1_i32_341 : BitVec 32 := 1#32
  let arg14 : BitVec 32 := Scf.iv c0_i32_339 c1_i32_341 k0_t14
  let c1024_i32_731 : BitVec 32 := 1024#32
  let v529 : BitVec 32 := Scalar.muli arg14 c1024_i32_731
  let v530 : BitVec 32 := Scalar.addi c4096_i32_732 v529
  let v542 : Index := Scalar.indexCast v530
  ![0, v542.toNat]
@[reducible] def k0_t15_loop : Scf.Loop 32 :=
  let c0_i32_373 : BitVec 32 := 0#32
  let c2_i32_374 : BitVec 32 := 2#32
  let v289 : BitVec 32 := Scalar.addi c0_i32_373 c2_i32_374
  let c1_i32_375 : BitVec 32 := 1#32
  ⟨c0_i32_373, v289, c1_i32_375⟩
def k0_off26 (k0_t15 : Fin k0_t15_loop.trips) : Fin 2 → Nat :=
  let c0_733 : Index := 0#32
  let c0_i32_732 : BitVec 32 := 0#32
  let c0_i32_373 : BitVec 32 := 0#32
  let c1_i32_375 : BitVec 32 := 1#32
  let arg14 : BitVec 32 := Scf.iv c0_i32_373 c1_i32_375 k0_t15
  let c1024_i32_731 : BitVec 32 := 1024#32
  let v529 : BitVec 32 := Scalar.muli arg14 c1024_i32_731
  let v530 : BitVec 32 := Scalar.addi c0_i32_732 v529
  let v531 : Index := Scalar.indexCast v530
  ![0, v531.toNat]
@[reducible] def k0_t16_loop : Scf.Loop 32 :=
  let c0_i32_377 : BitVec 32 := 0#32
  let c2_i32_378 : BitVec 32 := 2#32
  let v290 : BitVec 32 := Scalar.addi c0_i32_377 c2_i32_378
  let c1_i32_379 : BitVec 32 := 1#32
  ⟨c0_i32_377, v290, c1_i32_379⟩
def k0_off27 (k0_t16 : Fin k0_t16_loop.trips) : Fin 2 → Nat :=
  let c0_733 : Index := 0#32
  let c4096_i32_732 : BitVec 32 := 4096#32
  let c0_i32_377 : BitVec 32 := 0#32
  let c1_i32_379 : BitVec 32 := 1#32
  let arg14 : BitVec 32 := Scf.iv c0_i32_377 c1_i32_379 k0_t16
  let c1024_i32_731 : BitVec 32 := 1024#32
  let v529 : BitVec 32 := Scalar.muli arg14 c1024_i32_731
  let v530 : BitVec 32 := Scalar.addi c4096_i32_732 v529
  let v531 : Index := Scalar.indexCast v530
  ![0, v531.toNat]
def k0_dev19 (d0 : Dev nD) : Nat :=
  let c0_i32_413 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_412 : BitVec 32 := 1#32
  let v311 : BitVec 32 := Scalar.muli v7 c1_i32_412
  let v312 : BitVec 32 := Scalar.addi c0_i32_413 v311
  v312.toNat
def k0_dev20 (d0 : Dev nD) : Nat :=
  let c0_i32_416 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_415 : BitVec 32 := 1#32
  let v313 : BitVec 32 := Scalar.muli v4 c1_i32_415
  let v314 : BitVec 32 := Scalar.addi c0_i32_416 v313
  v314.toNat
def k0_dev21 (d0 : Dev nD) : Nat :=
  let c0_i32_422 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_421 : BitVec 32 := 1#32
  let v315 : BitVec 32 := Scalar.muli v4 c1_i32_421
  let v316 : BitVec 32 := Scalar.addi c0_i32_422 v315
  v316.toNat
def k0_dev22 (d0 : Dev nD) : Nat :=
  let c0_i32_430 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_429 : BitVec 32 := 1#32
  let v323 : BitVec 32 := Scalar.muli v7 c1_i32_429
  let v324 : BitVec 32 := Scalar.addi c0_i32_430 v323
  v324.toNat
@[reducible] def k0_t17_loop : Scf.Loop 32 :=
  let c0_i32_435 : BitVec 32 := 0#32
  let c2_i32_436 : BitVec 32 := 2#32
  let v331 : BitVec 32 := Scalar.addi c0_i32_435 c2_i32_436
  let c1_i32_437 : BitVec 32 := 1#32
  ⟨c0_i32_435, v331, c1_i32_437⟩
def k0_off28 (k0_t17 : Fin k0_t17_loop.trips) : Fin 2 → Nat :=
  let c0_733 : Index := 0#32
  let c2048_i32_732 : BitVec 32 := 2048#32
  let c0_i32_435 : BitVec 32 := 0#32
  let c1_i32_437 : BitVec 32 := 1#32
  let arg14 : BitVec 32 := Scf.iv c0_i32_435 c1_i32_437 k0_t17
  let c1024_i32_731 : BitVec 32 := 1024#32
  let v529 : BitVec 32 := Scalar.muli arg14 c1024_i32_731
  let v530 : BitVec 32 := Scalar.addi c2048_i32_732 v529
  let v531 : Index := Scalar.indexCast v530
  ![0, v531.toNat]
@[reducible] def k0_t18_loop : Scf.Loop 32 :=
  let c0_i32_439 : BitVec 32 := 0#32
  let c2_i32_440 : BitVec 32 := 2#32
  let v332 : BitVec 32 := Scalar.addi c0_i32_439 c2_i32_440
  let c1_i32_441 : BitVec 32 := 1#32
  ⟨c0_i32_439, v332, c1_i32_441⟩
def k0_off29 (k0_t18 : Fin k0_t18_loop.trips) : Fin 2 → Nat :=
  let c0_733 : Index := 0#32
  let c6144_i32_732 : BitVec 32 := 6144#32
  let c0_i32_439 : BitVec 32 := 0#32
  let c1_i32_441 : BitVec 32 := 1#32
  let arg14 : BitVec 32 := Scf.iv c0_i32_439 c1_i32_441 k0_t18
  let c1024_i32_731 : BitVec 32 := 1024#32
  let v529 : BitVec 32 := Scalar.muli arg14 c1024_i32_731
  let v530 : BitVec 32 := Scalar.addi c6144_i32_732 v529
  let v531 : Index := Scalar.indexCast v530
  ![0, v531.toNat]
def k0_dev23 (d0 : Dev nD) : Nat :=
  let c0_i32_446 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_445 : BitVec 32 := 1#32
  let v333 : BitVec 32 := Scalar.muli v4 c1_i32_445
  let v334 : BitVec 32 := Scalar.addi c0_i32_446 v333
  v334.toNat
def k0_dev24 (d0 : Dev nD) : Nat :=
  let c0_i32_454 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_453 : BitVec 32 := 1#32
  let v341 : BitVec 32 := Scalar.muli v7 c1_i32_453
  let v342 : BitVec 32 := Scalar.addi c0_i32_454 v341
  v342.toNat
@[reducible] def k0_t19_loop : Scf.Loop 32 :=
  let c0_i32_461 : BitVec 32 := 0#32
  let c4_i32_462 : BitVec 32 := 4#32
  let v351 : BitVec 32 := Scalar.addi c0_i32_461 c4_i32_462
  let c1_i32_463 : BitVec 32 := 1#32
  ⟨c0_i32_461, v351, c1_i32_463⟩
def k0_off30 (k0_t19 : Fin k0_t19_loop.trips) : Fin 2 → Nat :=
  let c0_733 : Index := 0#32
  let c0_i32_732 : BitVec 32 := 0#32
  let c0_i32_461 : BitVec 32 := 0#32
  let c1_i32_463 : BitVec 32 := 1#32
  let arg14 : BitVec 32 := Scf.iv c0_i32_461 c1_i32_463 k0_t19
  let c1024_i32_731 : BitVec 32 := 1024#32
  let v529 : BitVec 32 := Scalar.muli arg14 c1024_i32_731
  let v530 : BitVec 32 := Scalar.addi c0_i32_732 v529
  let v531 : Index := Scalar.indexCast v530
  ![0, v531.toNat]
def k0_off31 (d0 : Dev nD) (k0_t19 : Fin k0_t19_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_459 : BitVec 32 := 1#32
  let v349 : BitVec 32 := Scalar.addi v2 c1_i32_459
  let c4_i32_460 : BitVec 32 := 4#32
  let v350 : BitVec 32 := Scalar.remsi v349 c4_i32_460
  let c1024_i32_736 : BitVec 32 := 1024#32
  let v537 : BitVec 32 := Scalar.muli v350 c1024_i32_736
  let c0_i32_732 : BitVec 32 := 0#32
  let c0_i32_461 : BitVec 32 := 0#32
  let c1_i32_463 : BitVec 32 := 1#32
  let arg14 : BitVec 32 := Scf.iv c0_i32_461 c1_i32_463 k0_t19
  let c1024_i32_731 : BitVec 32 := 1024#32
  let v529 : BitVec 32 := Scalar.muli arg14 c1024_i32_731
  let v530 : BitVec 32 := Scalar.addi c0_i32_732 v529
  ![v537.toNat, v530.toNat]
@[reducible] def k0_t20_loop : Scf.Loop 32 :=
  let c0_i32_467 : BitVec 32 := 0#32
  let c4_i32_468 : BitVec 32 := 4#32
  let v354 : BitVec 32 := Scalar.addi c0_i32_467 c4_i32_468
  let c1_i32_469 : BitVec 32 := 1#32
  ⟨c0_i32_467, v354, c1_i32_469⟩
def k0_off32 (k0_t20 : Fin k0_t20_loop.trips) : Fin 2 → Nat :=
  let c0_733 : Index := 0#32
  let c4096_i32_732 : BitVec 32 := 4096#32
  let c0_i32_467 : BitVec 32 := 0#32
  let c1_i32_469 : BitVec 32 := 1#32
  let arg14 : BitVec 32 := Scf.iv c0_i32_467 c1_i32_469 k0_t20
  let c1024_i32_731 : BitVec 32 := 1024#32
  let v529 : BitVec 32 := Scalar.muli arg14 c1024_i32_731
  let v530 : BitVec 32 := Scalar.addi c4096_i32_732 v529
  let v531 : Index := Scalar.indexCast v530
  ![0, v531.toNat]
def k0_off33 (d0 : Dev nD) (k0_t20 : Fin k0_t20_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_465 : BitVec 32 := 3#32
  let v352 : BitVec 32 := Scalar.addi v2 c3_i32_465
  let c4_i32_466 : BitVec 32 := 4#32
  let v353 : BitVec 32 := Scalar.remsi v352 c4_i32_466
  let c1024_i32_736 : BitVec 32 := 1024#32
  let v537 : BitVec 32 := Scalar.muli v353 c1024_i32_736
  let c4096_i32_732 : BitVec 32 := 4096#32
  let c0_i32_467 : BitVec 32 := 0#32
  let c1_i32_469 : BitVec 32 := 1#32
  let arg14 : BitVec 32 := Scf.iv c0_i32_467 c1_i32_469 k0_t20
  let c1024_i32_731 : BitVec 32 := 1024#32
  let v529 : BitVec 32 := Scalar.muli arg14 c1024_i32_731
  let v530 : BitVec 32 := Scalar.addi c4096_i32_732 v529
  ![v537.toNat, v530.toNat]
def k0_dev25 (d0 : Dev nD) : Nat :=
  let c0_i32_533 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_532 : BitVec 32 := 1#32
  let v395 : BitVec 32 := Scalar.muli v7 c1_i32_532
  let v396 : BitVec 32 := Scalar.addi c0_i32_533 v395
  v396.toNat
def k0_dev26 (d0 : Dev nD) : Nat :=
  let c0_i32_536 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_535 : BitVec 32 := 1#32
  let v397 : BitVec 32 := Scalar.muli v4 c1_i32_535
  let v398 : BitVec 32 := Scalar.addi c0_i32_536 v397
  v398.toNat
def k0_dev27 (d0 : Dev nD) : Nat :=
  let c0_i32_542 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_541 : BitVec 32 := 1#32
  let v399 : BitVec 32 := Scalar.muli v4 c1_i32_541
  let v400 : BitVec 32 := Scalar.addi c0_i32_542 v399
  v400.toNat
def k0_dev28 (d0 : Dev nD) : Nat :=
  let c0_i32_550 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_549 : BitVec 32 := 1#32
  let v407 : BitVec 32 := Scalar.muli v7 c1_i32_549
  let v408 : BitVec 32 := Scalar.addi c0_i32_550 v407
  v408.toNat
@[reducible] def k0_t21_loop : Scf.Loop 32 :=
  let c0_i32_555 : BitVec 32 := 0#32
  let c4_i32_556 : BitVec 32 := 4#32
  let v415 : BitVec 32 := Scalar.addi c0_i32_555 c4_i32_556
  let c1_i32_557 : BitVec 32 := 1#32
  ⟨c0_i32_555, v415, c1_i32_557⟩
def k0_off34 (k0_t21 : Fin k0_t21_loop.trips) : Fin 2 → Nat :=
  let c0_733 : Index := 0#32
  let c0_i32_732 : BitVec 32 := 0#32
  let c0_i32_555 : BitVec 32 := 0#32
  let c1_i32_557 : BitVec 32 := 1#32
  let arg14 : BitVec 32 := Scf.iv c0_i32_555 c1_i32_557 k0_t21
  let c1024_i32_731 : BitVec 32 := 1024#32
  let v529 : BitVec 32 := Scalar.muli arg14 c1024_i32_731
  let v530 : BitVec 32 := Scalar.addi c0_i32_732 v529
  let v531 : Index := Scalar.indexCast v530
  ![0, v531.toNat]
def k0_off35 (d0 : Dev nD) (k0_t21 : Fin k0_t21_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_736 : BitVec 32 := 1024#32
  let v537 : BitVec 32 := Scalar.muli v2 c1024_i32_736
  let c0_i32_732 : BitVec 32 := 0#32
  let c0_i32_555 : BitVec 32 := 0#32
  let c1_i32_557 : BitVec 32 := 1#32
  let arg14 : BitVec 32 := Scf.iv c0_i32_555 c1_i32_557 k0_t21
  let c1024_i32_731 : BitVec 32 := 1024#32
  let v529 : BitVec 32 := Scalar.muli arg14 c1024_i32_731
  let v530 : BitVec 32 := Scalar.addi c0_i32_732 v529
  ![v537.toNat, v530.toNat]
@[reducible] def k0_t22_loop : Scf.Loop 32 :=
  let c0_i32_559 : BitVec 32 := 0#32
  let c4_i32_560 : BitVec 32 := 4#32
  let v416 : BitVec 32 := Scalar.addi c0_i32_559 c4_i32_560
  let c1_i32_561 : BitVec 32 := 1#32
  ⟨c0_i32_559, v416, c1_i32_561⟩
def k0_off36 (k0_t22 : Fin k0_t22_loop.trips) : Fin 2 → Nat :=
  let c0_733 : Index := 0#32
  let c4096_i32_732 : BitVec 32 := 4096#32
  let c0_i32_559 : BitVec 32 := 0#32
  let c1_i32_561 : BitVec 32 := 1#32
  let arg14 : BitVec 32 := Scf.iv c0_i32_559 c1_i32_561 k0_t22
  let c1024_i32_731 : BitVec 32 := 1024#32
  let v529 : BitVec 32 := Scalar.muli arg14 c1024_i32_731
  let v530 : BitVec 32 := Scalar.addi c4096_i32_732 v529
  let v531 : Index := Scalar.indexCast v530
  ![0, v531.toNat]
def k0_off37 (d0 : Dev nD) (k0_t22 : Fin k0_t22_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_736 : BitVec 32 := 1024#32
  let v537 : BitVec 32 := Scalar.muli v2 c1024_i32_736
  let c4096_i32_732 : BitVec 32 := 4096#32
  let c0_i32_559 : BitVec 32 := 0#32
  let c1_i32_561 : BitVec 32 := 1#32
  let arg14 : BitVec 32 := Scf.iv c0_i32_559 c1_i32_561 k0_t22
  let c1024_i32_731 : BitVec 32 := 1024#32
  let v529 : BitVec 32 := Scalar.muli arg14 c1024_i32_731
  let v530 : BitVec 32 := Scalar.addi c4096_i32_732 v529
  ![v537.toNat, v530.toNat]
def k0_dev29 (d0 : Dev nD) : Nat :=
  let c0_i32_595 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_594 : BitVec 32 := 1#32
  let v437 : BitVec 32 := Scalar.muli v7 c1_i32_594
  let v438 : BitVec 32 := Scalar.addi c0_i32_595 v437
  v438.toNat
def k0_dev30 (d0 : Dev nD) : Nat :=
  let c0_i32_598 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_597 : BitVec 32 := 1#32
  let v439 : BitVec 32 := Scalar.muli v4 c1_i32_597
  let v440 : BitVec 32 := Scalar.addi c0_i32_598 v439
  v440.toNat
def k0_dev31 (d0 : Dev nD) : Nat :=
  let c0_i32_604 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_603 : BitVec 32 := 1#32
  let v441 : BitVec 32 := Scalar.muli v4 c1_i32_603
  let v442 : BitVec 32 := Scalar.addi c0_i32_604 v441
  v442.toNat
def k0_dev32 (d0 : Dev nD) : Nat :=
  let c0_i32_612 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_611 : BitVec 32 := 1#32
  let v449 : BitVec 32 := Scalar.muli v7 c1_i32_611
  let v450 : BitVec 32 := Scalar.addi c0_i32_612 v449
  v450.toNat
def k0_dev33 (d0 : Dev nD) : Nat :=
  let c0_i32_620 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_619 : BitVec 32 := 1#32
  let v457 : BitVec 32 := Scalar.muli v4 c1_i32_619
  let v458 : BitVec 32 := Scalar.addi c0_i32_620 v457
  v458.toNat
def k0_dev34 (d0 : Dev nD) : Nat :=
  let c0_i32_628 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_627 : BitVec 32 := 1#32
  let v465 : BitVec 32 := Scalar.muli v7 c1_i32_627
  let v466 : BitVec 32 := Scalar.addi c0_i32_628 v465
  v466.toNat
@[reducible] def k0_t23_loop : Scf.Loop 32 :=
  let c0_i32_635 : BitVec 32 := 0#32
  let c4_i32_636 : BitVec 32 := 4#32
  let v475 : BitVec 32 := Scalar.addi c0_i32_635 c4_i32_636
  let c1_i32_637 : BitVec 32 := 1#32
  ⟨c0_i32_635, v475, c1_i32_637⟩
def k0_off38 (k0_t23 : Fin k0_t23_loop.trips) : Fin 2 → Nat :=
  let c0_733 : Index := 0#32
  let c0_i32_732 : BitVec 32 := 0#32
  let c0_i32_635 : BitVec 32 := 0#32
  let c1_i32_637 : BitVec 32 := 1#32
  let arg14 : BitVec 32 := Scf.iv c0_i32_635 c1_i32_637 k0_t23
  let c1024_i32_731 : BitVec 32 := 1024#32
  let v529 : BitVec 32 := Scalar.muli arg14 c1024_i32_731
  let v530 : BitVec 32 := Scalar.addi c0_i32_732 v529
  let v531 : Index := Scalar.indexCast v530
  ![0, v531.toNat]
def k0_off39 (d0 : Dev nD) (k0_t23 : Fin k0_t23_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_633 : BitVec 32 := 3#32
  let v473 : BitVec 32 := Scalar.addi v2 c3_i32_633
  let c4_i32_634 : BitVec 32 := 4#32
  let v474 : BitVec 32 := Scalar.remsi v473 c4_i32_634
  let c1024_i32_736 : BitVec 32 := 1024#32
  let v537 : BitVec 32 := Scalar.muli v474 c1024_i32_736
  let c0_i32_732 : BitVec 32 := 0#32
  let c0_i32_635 : BitVec 32 := 0#32
  let c1_i32_637 : BitVec 32 := 1#32
  let arg14 : BitVec 32 := Scf.iv c0_i32_635 c1_i32_637 k0_t23
  let c1024_i32_731 : BitVec 32 := 1024#32
  let v529 : BitVec 32 := Scalar.muli arg14 c1024_i32_731
  let v530 : BitVec 32 := Scalar.addi c0_i32_732 v529
  ![v537.toNat, v530.toNat]
@[reducible] def k0_t24_loop : Scf.Loop 32 :=
  let c0_i32_641 : BitVec 32 := 0#32
  let c4_i32_642 : BitVec 32 := 4#32
  let v478 : BitVec 32 := Scalar.addi c0_i32_641 c4_i32_642
  let c1_i32_643 : BitVec 32 := 1#32
  ⟨c0_i32_641, v478, c1_i32_643⟩
def k0_off40 (k0_t24 : Fin k0_t24_loop.trips) : Fin 2 → Nat :=
  let c0_733 : Index := 0#32
  let c4096_i32_732 : BitVec 32 := 4096#32
  let c0_i32_641 : BitVec 32 := 0#32
  let c1_i32_643 : BitVec 32 := 1#32
  let arg14 : BitVec 32 := Scf.iv c0_i32_641 c1_i32_643 k0_t24
  let c1024_i32_731 : BitVec 32 := 1024#32
  let v529 : BitVec 32 := Scalar.muli arg14 c1024_i32_731
  let v530 : BitVec 32 := Scalar.addi c4096_i32_732 v529
  let v531 : Index := Scalar.indexCast v530
  ![0, v531.toNat]
def k0_off41 (d0 : Dev nD) (k0_t24 : Fin k0_t24_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_639 : BitVec 32 := 1#32
  let v476 : BitVec 32 := Scalar.addi v2 c1_i32_639
  let c4_i32_640 : BitVec 32 := 4#32
  let v477 : BitVec 32 := Scalar.remsi v476 c4_i32_640
  let c1024_i32_736 : BitVec 32 := 1024#32
  let v537 : BitVec 32 := Scalar.muli v477 c1024_i32_736
  let c4096_i32_732 : BitVec 32 := 4096#32
  let c0_i32_641 : BitVec 32 := 0#32
  let c1_i32_643 : BitVec 32 := 1#32
  let arg14 : BitVec 32 := Scf.iv c0_i32_641 c1_i32_643 k0_t24
  let c1024_i32_731 : BitVec 32 := 1024#32
  let v529 : BitVec 32 := Scalar.muli arg14 c1024_i32_731
  let v530 : BitVec 32 := Scalar.addi c4096_i32_732 v529
  ![v537.toNat, v530.toNat]
@[reducible] def k0_t25_loop : Scf.Loop 32 :=
  let c0_i32_677 : BitVec 32 := 0#32
  let c2_i32_678 : BitVec 32 := 2#32
  let v501 : BitVec 32 := Scalar.addi c0_i32_677 c2_i32_678
  let c1_i32_679 : BitVec 32 := 1#32
  ⟨c0_i32_677, v501, c1_i32_679⟩
def k0_off42 (k0_t25 : Fin k0_t25_loop.trips) : Fin 2 → Nat :=
  let c0_733 : Index := 0#32
  let c0_i32_732 : BitVec 32 := 0#32
  let c0_i32_677 : BitVec 32 := 0#32
  let c1_i32_679 : BitVec 32 := 1#32
  let arg14 : BitVec 32 := Scf.iv c0_i32_677 c1_i32_679 k0_t25
  let c1024_i32_731 : BitVec 32 := 1024#32
  let v529 : BitVec 32 := Scalar.muli arg14 c1024_i32_731
  let v530 : BitVec 32 := Scalar.addi c0_i32_732 v529
  let v531 : Index := Scalar.indexCast v530
  ![0, v531.toNat]
def k0_off43 (d0 : Dev nD) (k0_t25 : Fin k0_t25_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_675 : BitVec 32 := 2#32
  let v499 : BitVec 32 := Scalar.addi v2 c2_i32_675
  let c4_i32_676 : BitVec 32 := 4#32
  let v500 : BitVec 32 := Scalar.remsi v499 c4_i32_676
  let c1024_i32_736 : BitVec 32 := 1024#32
  let v537 : BitVec 32 := Scalar.muli v500 c1024_i32_736
  let c0_i32_732 : BitVec 32 := 0#32
  let c0_i32_677 : BitVec 32 := 0#32
  let c1_i32_679 : BitVec 32 := 1#32
  let arg14 : BitVec 32 := Scf.iv c0_i32_677 c1_i32_679 k0_t25
  let c1024_i32_731 : BitVec 32 := 1024#32
  let v529 : BitVec 32 := Scalar.muli arg14 c1024_i32_731
  let v530 : BitVec 32 := Scalar.addi c0_i32_732 v529
  ![v537.toNat, v530.toNat]
@[reducible] def k0_t26_loop : Scf.Loop 32 :=
  let c0_i32_681 : BitVec 32 := 0#32
  let c2_i32_682 : BitVec 32 := 2#32
  let v502 : BitVec 32 := Scalar.addi c0_i32_681 c2_i32_682
  let c1_i32_683 : BitVec 32 := 1#32
  ⟨c0_i32_681, v502, c1_i32_683⟩
def k0_off44 (k0_t26 : Fin k0_t26_loop.trips) : Fin 2 → Nat :=
  let c0_733 : Index := 0#32
  let c4096_i32_732 : BitVec 32 := 4096#32
  let c0_i32_681 : BitVec 32 := 0#32
  let c1_i32_683 : BitVec 32 := 1#32
  let arg14 : BitVec 32 := Scf.iv c0_i32_681 c1_i32_683 k0_t26
  let c1024_i32_731 : BitVec 32 := 1024#32
  let v529 : BitVec 32 := Scalar.muli arg14 c1024_i32_731
  let v530 : BitVec 32 := Scalar.addi c4096_i32_732 v529
  let v531 : Index := Scalar.indexCast v530
  ![0, v531.toNat]
def k0_off45 (d0 : Dev nD) (k0_t26 : Fin k0_t26_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_675 : BitVec 32 := 2#32
  let v499 : BitVec 32 := Scalar.addi v2 c2_i32_675
  let c4_i32_676 : BitVec 32 := 4#32
  let v500 : BitVec 32 := Scalar.remsi v499 c4_i32_676
  let c1024_i32_736 : BitVec 32 := 1024#32
  let v537 : BitVec 32 := Scalar.muli v500 c1024_i32_736
  let c4096_i32_732 : BitVec 32 := 4096#32
  let c0_i32_681 : BitVec 32 := 0#32
  let c1_i32_683 : BitVec 32 := 1#32
  let arg14 : BitVec 32 := Scf.iv c0_i32_681 c1_i32_683 k0_t26
  let c1024_i32_731 : BitVec 32 := 1024#32
  let v529 : BitVec 32 := Scalar.muli arg14 c1024_i32_731
  let v530 : BitVec 32 := Scalar.addi c4096_i32_732 v529
  ![v537.toNat, v530.toNat]
@[reducible] def k0_t27_loop : Scf.Loop 32 :=
  let c0_i32_715 : BitVec 32 := 0#32
  let c2_i32_716 : BitVec 32 := 2#32
  let v523 : BitVec 32 := Scalar.addi c0_i32_715 c2_i32_716
  let c1_i32_717 : BitVec 32 := 1#32
  ⟨c0_i32_715, v523, c1_i32_717⟩
def k0_off46 (k0_t27 : Fin k0_t27_loop.trips) : Fin 2 → Nat :=
  let c0_733 : Index := 0#32
  let c2048_i32_732 : BitVec 32 := 2048#32
  let c0_i32_715 : BitVec 32 := 0#32
  let c1_i32_717 : BitVec 32 := 1#32
  let arg14 : BitVec 32 := Scf.iv c0_i32_715 c1_i32_717 k0_t27
  let c1024_i32_731 : BitVec 32 := 1024#32
  let v529 : BitVec 32 := Scalar.muli arg14 c1024_i32_731
  let v530 : BitVec 32 := Scalar.addi c2048_i32_732 v529
  let v531 : Index := Scalar.indexCast v530
  ![0, v531.toNat]
def k0_off47 (d0 : Dev nD) (k0_t27 : Fin k0_t27_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_675 : BitVec 32 := 2#32
  let v499 : BitVec 32 := Scalar.addi v2 c2_i32_675
  let c4_i32_676 : BitVec 32 := 4#32
  let v500 : BitVec 32 := Scalar.remsi v499 c4_i32_676
  let c1024_i32_736 : BitVec 32 := 1024#32
  let v537 : BitVec 32 := Scalar.muli v500 c1024_i32_736
  let c2048_i32_732 : BitVec 32 := 2048#32
  let c0_i32_715 : BitVec 32 := 0#32
  let c1_i32_717 : BitVec 32 := 1#32
  let arg14 : BitVec 32 := Scf.iv c0_i32_715 c1_i32_717 k0_t27
  let c1024_i32_731 : BitVec 32 := 1024#32
  let v529 : BitVec 32 := Scalar.muli arg14 c1024_i32_731
  let v530 : BitVec 32 := Scalar.addi c2048_i32_732 v529
  ![v537.toNat, v530.toNat]
@[reducible] def k0_t28_loop : Scf.Loop 32 :=
  let c0_i32_719 : BitVec 32 := 0#32
  let c2_i32_720 : BitVec 32 := 2#32
  let v524 : BitVec 32 := Scalar.addi c0_i32_719 c2_i32_720
  let c1_i32_721 : BitVec 32 := 1#32
  ⟨c0_i32_719, v524, c1_i32_721⟩
def k0_off48 (k0_t28 : Fin k0_t28_loop.trips) : Fin 2 → Nat :=
  let c0_733 : Index := 0#32
  let c6144_i32_732 : BitVec 32 := 6144#32
  let c0_i32_719 : BitVec 32 := 0#32
  let c1_i32_721 : BitVec 32 := 1#32
  let arg14 : BitVec 32 := Scf.iv c0_i32_719 c1_i32_721 k0_t28
  let c1024_i32_731 : BitVec 32 := 1024#32
  let v529 : BitVec 32 := Scalar.muli arg14 c1024_i32_731
  let v530 : BitVec 32 := Scalar.addi c6144_i32_732 v529
  let v531 : Index := Scalar.indexCast v530
  ![0, v531.toNat]
def k0_off49 (d0 : Dev nD) (k0_t28 : Fin k0_t28_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_675 : BitVec 32 := 2#32
  let v499 : BitVec 32 := Scalar.addi v2 c2_i32_675
  let c4_i32_676 : BitVec 32 := 4#32
  let v500 : BitVec 32 := Scalar.remsi v499 c4_i32_676
  let c1024_i32_736 : BitVec 32 := 1024#32
  let v537 : BitVec 32 := Scalar.muli v500 c1024_i32_736
  let c6144_i32_732 : BitVec 32 := 6144#32
  let c0_i32_719 : BitVec 32 := 0#32
  let c1_i32_721 : BitVec 32 := 1#32
  let arg14 : BitVec 32 := Scf.iv c0_i32_719 c1_i32_721 k0_t28
  let c1024_i32_731 : BitVec 32 := 1024#32
  let v529 : BitVec 32 := Scalar.muli arg14 c1024_i32_731
  let v530 : BitVec 32 := Scalar.addi c6144_i32_732 v529
  ![v537.toNat, v530.toNat]
def k0_dev35 (d0 : Dev nD) : Nat :=
  let c0_i32_725 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_724 : BitVec 32 := 1#32
  let v525 : BitVec 32 := Scalar.muli v7 c1_i32_724
  let v526 : BitVec 32 := Scalar.addi c0_i32_725 v525
  v526.toNat
def k0_dev36 (d0 : Dev nD) : Nat :=
  let c0_i32_728 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_727 : BitVec 32 := 1#32
  let v527 : BitVec 32 := Scalar.muli v4 c1_i32_727
  let v528 : BitVec 32 := Scalar.addi c0_i32_728 v527
  v528.toNat
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Vals.lean ====
/- The contents the kernel's buffers take, at any float model: the partial products a device computes of its blocks, the
   running sums that go round the ring in each direction, and the result the devices end with. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Gemm

open Cert.KernelIdeal Cert.KernelIdeal.Gen
open Idealize.ShloMosaic Idealize.ShloMosaic.TcCoe

variable {F : FTy → Type} [FloatOps F]

/-! ## The ring of the four devices -/

set_option backward.proofsInPublic true in
/-- The device `k` places to the right. -/
def far (k : ℕ) (c : Dev nD) : Dev nD := ⟨(c.val + k) % 4, Nat.mod_lt _ (by decide)⟩
/-- The right neighbour, -/
abbrev nxt (c : Dev nD) : Dev nD := far 1 c
/-- and the left one. -/
abbrev prv (c : Dev nD) : Dev nD := far 3 c

theorem prv_nxt (c : Dev nD) : prv (nxt c) = c := by revert c; decide
theorem nxt_prv (c : Dev nD) : nxt (prv c) = c := by revert c; decide
theorem far_far (a b : ℕ) (c : Dev nD) : far a (far b c) = far (b + a) c := by
  apply Fin.ext; simp only [far]; omega
theorem far_four (a : ℕ) (c : Dev nD) : far (a + 4) c = far a c := by
  apply Fin.ext; simp only [far]; omega
theorem far_zero (c : Dev nD) : far 0 c = c := by
  apply Fin.ext; have := c.isLt; simp only [far]; exact Nat.mod_eq_of_lt (by omega)

/-! ## Tiles -/

/-- A bf16 buffer of 1024 rows and 8192 columns, -/
abbrev Wide (F : FTy → Type) : Type := Vec F S1024x8192 .bf16
/-- and one of its eight tiles of 1024 columns. -/
abbrev Tile (F : FTy → Type) : Type := Vec F S1024x1024 .bf16

theorem tile_inb (j : Fin 8) : ∀ a, (![0, 1024 * j.val] : Fin 2 → ℕ) a + S1024x1024.size a ≤ S1024x8192.size a := by
  intro a; have := j.isLt; fin_cases a
  · show 0 + 1024 ≤ 1024; omega
  · show 1024 * j.val + 1024 ≤ 8192; omega

/-- The rectangle of tile `j`. -/
abbrev tileR (j : Fin 8) : Rect S1024x8192 := Rect.unit (s := S1024x8192) ![0, 1024 * j.val] S1024x1024.size (tile_inb j)

/-- Tile `j` of a buffer of any element type. -/
def tileOf {α : Type} (f : S1024x8192.Idx → α) (j : Fin 8) : S1024x1024.Idx → α := fun i => f ((tileR j).emb i)

theorem col_lt (i : S1024x8192.Idx) : (i 1).val < 8192 := (i 1).isLt

/-- The tile a position lies in, -/
def tileIx (i : S1024x8192.Idx) : Fin 8 := ⟨(i 1).val / 1024, by have := col_lt i; omega⟩
/-- and its place in that tile. -/
def inTile (i : S1024x8192.Idx) : S1024x1024.Idx := fun a => match a with
  | ⟨0, _⟩ => i 0
  | ⟨1, _⟩ => (⟨(i 1).val % 1024, Nat.mod_lt _ (by decide)⟩ : Fin 1024)

/-- The buffer of eight given tiles. -/
def byTile {α : Type} (T : Fin 8 → S1024x1024.Idx → α) : S1024x8192.Idx → α := fun i => T (tileIx i) (inTile i)

theorem tileIx_emb (j : Fin 8) (i : S1024x1024.Idx) : tileIx ((tileR j).emb i) = j := by
  apply Fin.ext
  have h : (i 1).val < 1024 := (i 1).isLt
  simp only [tileIx, Rect.emb_apply]
  show (1024 * j.val + 1 * (i 1).val) / 1024 = j.val
  omega

theorem inTile_emb (j : Fin 8) (i : S1024x1024.Idx) : inTile ((tileR j).emb i) = i := by
  have h : (i 1).val < 1024 := (i 1).isLt
  funext a
  apply Fin.ext
  fin_cases a
  · show (((tileR j).emb i) 0).val = (i 0).val
    rw [Rect.emb_apply]
    show 0 + 1 * (i 0).val = (i 0).val
    omega
  · show (((tileR j).emb i) 1).val % 1024 = (i 1).val
    rw [Rect.emb_apply]
    show (1024 * j.val + 1 * (i 1).val) % 1024 = (i 1).val
    omega

theorem tileOf_byTile {α : Type} (T : Fin 8 → S1024x1024.Idx → α) (j : Fin 8) : tileOf (byTile T) j = T j := by
  funext i; simp only [tileOf, byTile, tileIx_emb, inTile_emb]

/-- A position of tile `j` is that tile's, at its place in it. -/
theorem emb_inTile (i : S1024x8192.Idx) : (tileR (tileIx i)).emb (inTile i) = i := by
  funext a
  apply Fin.ext
  rw [Rect.emb_apply]
  fin_cases a
  · show 0 + 1 * (i 0).val = (i 0).val; omega
  · show 1024 * ((i 1).val / 1024) + 1 * ((i 1).val % 1024) = (i 1).val; omega

/-! ## The blocks and their products -/

variable (m : (ℓ : Loc nD τ sig) → Buf (Elt F) ℓ)

theorem xblk_inb (ch : Dev nD) : ∀ a, (![1024 * ch.val, 0] : Fin 2 → ℕ) a + S1024x1024.size a ≤ S4096x1024.size a := by
  intro a
  have h : ch.val < 4 := ch.isLt
  fin_cases a
  · show 1024 * ch.val + 1024 ≤ 4096; omega
  · show 0 + 1024 ≤ 1024; omega

/-- The rectangle of the `ch`-th 1024 rows of a device's first operand. -/
abbrev xR (ch : Dev nD) : Rect S4096x1024 := Rect.unit (s := S4096x1024) ![1024 * ch.val, 0] S1024x1024.size (xblk_inb ch)

/-- Device `c`'s first operand, -/
def xbuf (c : Dev nD) : S4096x1024.Idx → Elt F .f32 := m ((c : Thread nD τ).loc main_arg0)
/-- its second operand. -/
def wbuf (c : Dev nD) : S1024x8192.Idx → Elt F .f32 := m ((c : Thread nD τ).loc main_arg1)
/-- The `ch`-th 1024 rows of its first operand. -/
def xblk (c ch : Dev nD) : Vec F S1024x1024 .f32 := fun i => xbuf m c ((xR ch).emb i)

/-- Device `c`'s share of row chunk `ch` of the product, tile by tile. -/
def part (c ch : Dev nD) : Wide F := byTile fun j => k0_pay5 (k0_pay3 (xblk m c ch)) (k0_pay4 (tileOf (wbuf m c) j))

/-- Two buffers added tile by tile, -/
def cmb (f g : Wide F) : Wide F := byTile fun j => k0_pay18 (tileOf f j) (tileOf g j)
/-- and added with negative entries then set to zero. -/
def cmbR (f g : Wide F) : Wide F := byTile fun j => k0_pay32 (tileOf f j) (tileOf g j)

/-- The left half of one buffer beside the right half of another. -/
def half {α : Type} (f g : S1024x8192.Idx → α) : S1024x8192.Idx → α := fun i => if (i 1).val < 4096 then f i else g i

/-- The running sum of row chunk `ch` that travels past the devices `ch`, `far a ch`, `far 2 ch`, `far b ch` in this
    order, after `k` of its three additions. -/
def sumVia (a b : ℕ) (ch : Dev nD) : ℕ → Wide F
  | 0 => part m ch ch
  | 1 => cmb (part m ch ch) (part m (far a ch) ch)
  | 2 => cmb (cmb (part m ch ch) (part m (far a ch) ch)) (part m (far 2 ch) ch)
  | _ + 3 => cmbR (cmb (cmb (part m ch ch) (part m (far a ch) ch)) (part m (far 2 ch) ch)) (part m (far b ch) ch)

/-- The one that travels to the right, -/
abbrev sumR (ch : Dev nD) : ℕ → Wide F := sumVia m 1 3 ch
/-- and the one that travels to the left. -/
abbrev sumL (ch : Dev nD) : ℕ → Wide F := sumVia m 3 1 ch

/-- What device `c` sends in phase `p`: its right-going half and its left-going half. -/
def cur (p : ℕ) (c : Dev nD) : Wide F := half (sumR m (far (3 * p) c) p) (sumL m (far p c) p)

/-- What it has received in phase `p`. -/
def got (p : ℕ) (c : Dev nD) : Wide F := half (sumR m (far (3 * (p + 1)) c) p) (sumL m (far (p + 1) c) p)

/-- Its own shares of the two chunks it receives in phase `p`. -/
def own (p : ℕ) (c : Dev nD) : Wide F := half (part m c (far (3 * (p + 1)) c)) (part m c (far (p + 1) c))

end Cert.Gemm

end

end
-- ==== Proof.Ring.lean ====
/- The protocol of the ring. Every device has a barrier cell and, for each of two directions and two pieces, a cell its
   own transfers complete at and a cell the neighbour's transfers land at. Phase `p` of six: each device signals both
   neighbours (handing each the half of its destination buffer that neighbour is about to write), waits for both, sends
   its pieces, and waits for them and for its neighbours' pieces. A last barrier, the seventh, hands nothing over. -/
module

public import proofs.«01_k».proof.Proof.Vals

@[expose] public section

noncomputable section

namespace Cert.Gemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The ring's component: a round protocol whose duties are told apart by a truth value. -/
abbrev UB : Type := URounds (GSem nD τ sig) Bool
/-- The pipeline library's component, the ring's, and the counters of a device's own transfers. -/
abbrev UU : Type := UR sig nD τ × (UB × Counters)

/-- Indices are round numbers. -/
local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × Counters)).trans embR
abbrev EC : UEmb Counters (MT nD τ sig ℕ (Elt F) ℕ UU ℕ) := countersEmb

abbrev 𝒱₀ : Variants := Variants.none

variable (m : (ℓ : Loc nD τ sig) → Buf (Elt F) ℓ)

/-! ## Cells -/

/-- A device's cells: `none` its barrier; `some (v, d, k)` the cell of direction `d` (`true`: to the right) and piece `k`
    its own transfers complete at (`v = false`) or its neighbour's land at (`v = true`). -/
abbrev Cid : Type := Option (Bool × Bool × Bool)
abbrev barC : Cid := none
abbrev sndC (d k : Bool) : Cid := some (false, d, k)
abbrev rcvC (d k : Bool) : Cid := some (true, d, k)

abbrev barS : Sem sig := (SemArray.scalar (sig.barrier 0 rfl) : Sems sig S_).sem

/-- The semaphore of a transfer cell. -/
def semNo : Bool × Bool × Bool → DmaSem sig
  | (false, true, false) => (1 : Fin 9)
  | (false, true, true) => (2 : Fin 9)
  | (true, true, false) => (3 : Fin 9)
  | (true, true, true) => (4 : Fin 9)
  | (false, false, false) => (5 : Fin 9)
  | (false, false, true) => (6 : Fin 9)
  | (true, false, false) => (7 : Fin 9)
  | (true, false, true) => (8 : Fin 9)

/-- The semaphore of a cell, -/
def csem : Cid → SemLoc sig
  | none => .reg barS
  | some x => .dma (semNo x)
/-- which cell a semaphore is. -/
def cidOf : SemLoc sig → Option Cid
  | .reg _ => some none
  | .dma n => if n.val = 0 then none else
      some (some (decide ((n.val - 1) / 2 % 2 = 1), decide ((n.val - 1) / 4 = 0), decide ((n.val - 1) % 2 = 1)))

theorem cidOf_csem (x : Cid) : cidOf (csem x) = some x := by revert x; decide
theorem csem_inj {x y : Cid} (h : csem x = csem y) : x = y := by
  have := congrArg cidOf h; rw [cidOf_csem, cidOf_csem] at this; exact Option.some.inj this

/-- The semaphore a device's own loads and stores of tiles use. -/
abbrev locS : DmaSem sig := (cc0_scratch6 : DmaSems sig S_).sem
theorem cidOf_loc : cidOf (.dma locS) = none := by decide

abbrev cell (c : Dev nD) (x : Cid) : GSem nD τ sig := ((c : Thread nD τ), csem x)

/-! ## Buffers and columns -/

/-- The kernel's three wide buffers: the two the running sums alternate between, and the one for fresh products. -/
inductive BufId where
  | A | B | P

/-- The columns from `lo` up to `hi`. -/
def cols (lo hi : ℕ) : Finset S1024x8192.Idx := Finset.univ.filter fun i => lo ≤ (i 1).val ∧ (i 1).val < hi

theorem mem_cols {lo hi : ℕ} {i : S1024x8192.Idx} : i ∈ cols lo hi ↔ lo ≤ (i 1).val ∧ (i 1).val < hi := by
  simp [cols]

/-- Device `c`'s buffer `b` held on the columns from `lo` up to `hi`, at share `q` and contents `f`. -/
def held (b : BufId) (c : Dev nD) (lo hi : ℕ) (q : PosShare TreeShare) (f : Wide F) : sProp 𝕄 :=
  match b with
  | .A => ((c : Thread nD τ).loc cc0_scratch3) ↦[cols lo hi]{q} f
  | .B => ((c : Thread nD τ).loc cc0_scratch4) ↦[cols lo hi]{q} f
  | .P => ((c : Thread nD τ).loc cc0_scratch5) ↦[cols lo hi]{q} f

omit [FloatOps F] in
instance held_storable (b : BufId) (c : Dev nD) (lo hi : ℕ) (q) (f : Wide F) : BI.Storable (upEmb : UEmb _ 𝕄) (held (F := F) b c lo hi q f) := by
  cases b <;> (unfold held; infer_instance)

omit [FloatOps F] in
theorem held_congr {b : BufId} {c : Dev nD} {lo hi : ℕ} {q} {f g : Wide F} (h : ∀ i, lo ≤ (i 1).val → (i 1).val < hi → f i = g i) :
    (held b c lo hi q f : sProp 𝕄) = held b c lo hi q g := by
  cases b <;> exact pointsTo_congr fun i hi => h i (mem_cols.mp hi).1 (mem_cols.mp hi).2

theorem cols_union {lo mid hi : ℕ} (h₁ : lo ≤ mid) (h₂ : mid ≤ hi) : cols lo hi = cols lo mid ∪ cols mid hi := by
  ext i; simp only [Finset.mem_union, mem_cols]; omega
theorem cols_disjoint (lo mid hi : ℕ) : Disjoint (cols lo mid) (cols mid hi) := by
  rw [Finset.disjoint_left]; intro i h h'; rw [mem_cols] at h h'; omega

omit [FloatOps F] in
/-- Split, and joined, at a column. -/
theorem held_split {b : BufId} {c : Dev nD} {lo mid hi : ℕ} {q} {f : Wide F} (h₁ : lo ≤ mid) (h₂ : mid ≤ hi) :
    (held b c lo hi q f : sProp 𝕄) ⊣⊢ iprop(held b c lo mid q f ∗ held b c mid hi q f) := by
  cases b <;> (unfold held; simp only; rw [cols_union h₁ h₂]; exact pointsTo_union (cols_disjoint lo mid hi))

omit [FloatOps F] in
/-- Joined at two contents. -/
theorem held_join {b : BufId} {c : Dev nD} {lo mid hi : ℕ} {f g : Wide F} (h₁ : lo ≤ mid) (h₂ : mid ≤ hi) :
    iprop(held b c lo mid fullShare f ∗ held b c mid hi fullShare g) ⊢ iprop(∃ h : Wide F, held b c lo hi fullShare h) := by
  refine BIBase.Entails.trans ?_ (exists_intro (fun i => if (i 1).val < mid then f i else g i))
  refine BIBase.Entails.trans ?_ (held_split h₁ h₂).2
  refine BIClass.sep_mono (Entails.of_eq (held_congr fun i _ h => ?_)) (Entails.of_eq (held_congr fun i h _ => ?_))
  · rw [if_pos h]
  · rw [if_neg (by omega)]

/-- The share kept of a piece while it is being sent, and the share lent. -/
abbrev kept : PosShare TreeShare := fullShare.left
abbrev lent : PosShare TreeShare := fullShare.right

omit [FloatOps F] in
theorem held_share {b : BufId} {c : Dev nD} {lo hi : ℕ} {f : Wide F} :
    (held b c lo hi fullShare f : sProp 𝕄) ⊣⊢ iprop(held b c lo hi kept f ∗ held b c lo hi lent f) := by
  cases b <;> exact pointsTo_share (PosShare.mem_left_op_right _)

/-! ## The pieces of a phase -/

/-- The buffer sent from in phase `p`, -/
def srcB (p : ℕ) : BufId := if p % 2 = 0 then .A else .B
/-- and the one received into. -/
def dstB (p : ℕ) : BufId := if p % 2 = 0 then .B else .A

/-- The first column of piece `k` in direction `d`, -/
def lo (d k : Bool) : ℕ := (if d then 0 else 4096) + (if k then 2048 else 0)
/-- and the column past its last in phase `p`: in phase 4 the first piece is the whole half. -/
def hi (d k : Bool) (p : ℕ) : ℕ := lo d k + (if k = false ∧ p = 4 then 4096 else 2048)

/-- The round of piece `k`'s cells that is phase `p`: phase 4 sends no second piece. -/
def rd (k : Bool) (p : ℕ) : ℕ := if k then (if p < 5 then p else p - 1) else p
/-- The phase of round `r`. -/
def ph (k : Bool) (r : ℕ) : ℕ := if k then (if r < 4 then r else 5) else r

/-- The neighbour in direction `d`. -/
def nbr (d : Bool) (c : Dev nD) : Dev nD := if d then nxt c else prv c
theorem nbr_nbr (d : Bool) (c : Dev nD) : nbr (!d) (nbr d c) = c := by revert c d; decide

/-- What a transfer of piece `k` in phase `p` credits. -/
def NQ : ℕ := ((Memref.whole cc0_scratch3 : Memref sig .tc .vmem S1024x8192 .bf16).slice (Rect.unit (s := S1024x8192) ![0, 0] S1024x2048.size inb_S1024x8192_S1024x2048_0_0) (fun _ => rfl)).view.dmaCredit
def NH : ℕ := ((Memref.whole cc0_scratch3 : Memref sig .tc .vmem S1024x8192 .bf16).slice (Rect.unit (s := S1024x8192) ![0, 0] S1024x4096.size inb_S1024x8192_S1024x4096_0_0) (fun _ => rfl)).view.dmaCredit
theorem NQ_pos : 0 < NQ := View.dmaCredit_pos _ (by decide)
theorem NH_pos : 0 < NH := View.dmaCredit_pos _ (by decide)
def amt (k : Bool) (p : ℕ) : ℕ := if k = false ∧ p = 4 then NH else NQ
theorem amt_pos (k : Bool) (p : ℕ) : 0 < amt k p := by unfold amt; split; exact NH_pos; exact NQ_pos

/-! ## The schedule -/

/-- What device `s` hands its neighbour in direction `!d` at barrier `p`, for that neighbour's transfers in direction `d`:
    the half of its destination buffer they write, and that its two landing cells for them have reached the phase. -/
def grant (p : ℕ) (d : Bool) (s : Dev nD) : sProp 𝕄 :=
  iprop((∃ f : Wide F, held (dstB p) s (lo d false) (lo d false + 4096) fullShare f)
    ∗ reached ER (cell s (rcvC d false)) (rd false p) ∗ reached ER (cell s (rcvC d true)) (rd true p))

/-- The payload of a duty of round `r` of device `c`'s cell `x`. -/
def pay (c : Dev nD) (x : Cid) (r : ℕ) (b : Bool) : sProp 𝕄 :=
  match x with
  | none => if r < 6 then grant r b (nbr b c) else iprop(emp)
  | some (false, d, k) => held (srcB (ph k r)) c (lo d k) (hi d k (ph k r)) lent (cur m (ph k r) c)
  | some (true, d, k) => iprop(held (dstB (ph k r)) c (lo d k) (hi d k (ph k r)) fullShare (got m (ph k r) c)
      ∗ reached ER (cell (nbr (!d) c) barC) (ph k r + 1))

/-- How many rounds a cell has. -/
def nrounds : Cid → ℕ
  | none => 7
  | some (_, _, k) => if k then 5 else 6

/-- The duties of round `r` of a cell: a barrier's `true` is the right neighbour's, its `false` the left one's. -/
def dutiesOf (x : Cid) (r : ℕ) : Finset Bool := if r < nrounds x then (if x = none then Finset.univ else {false}) else ∅
def amtOf (x : Cid) (r : ℕ) : ℕ := match x with
  | none => 1
  | some (_, _, k) => amt k (ph k r)

def ringRd : Rounds.Schedule (GSem nD τ sig) Bool 𝕄 where
  duties g r := if g.1.2 = .tc then (match cidOf g.2 with | some x => dutiesOf x r | none => ∅) else ∅
  unitless _ := False
  amount g r _ := match cidOf g.2 with | some x => amtOf x r | none => 1
  payload g r b := match cidOf g.2 with | some x => pay m g.1.1 x r b | none => iprop(emp)
  amount_pos g r _ _ := by
    rcases cidOf g.2 with _ | _ | ⟨v, d, k⟩
    · exact Nat.one_pos
    · exact Nat.one_pos
    · exact amt_pos _ _

instance pay_storable (c : Dev nD) (x : Cid) (r : ℕ) (b : Bool) : BI.Storable (upEmb : UEmb _ 𝕄) (pay (F := F) m c x r b) := by
  rcases x with _ | ⟨_ | _, d, k⟩
  · unfold pay grant; simp only; split <;> infer_instance
  · unfold pay; infer_instance
  · unfold pay; infer_instance

instance ringRd_payload_storable (g : GSem nD τ sig) (r : ℕ) (b : Bool) :
    BI.Storable (upEmb : UEmb _ 𝕄) ((ringRd (F := F) m).payload g r b) := by
  unfold ringRd; dsimp only
  split <;> infer_instance

section Tables
variable (c : Dev nD) (x : Cid) (r : ℕ) (b : Bool)

theorem duties_cell : (ringRd (F := F) m).duties (cell c x) r = dutiesOf x r := by
  unfold ringRd; dsimp only [cell]; rw [if_pos rfl, cidOf_csem]
theorem amount_cell : (ringRd (F := F) m).amount (cell c x) r b = amtOf x r := by
  unfold ringRd; dsimp only [cell]; rw [cidOf_csem]
theorem payload_cell : (ringRd (F := F) m).payload (cell c x) r b = pay m c x r b := by
  unfold ringRd; dsimp only [cell]; rw [cidOf_csem]
theorem duties_over (h : nrounds x ≤ r) : ∀ r', r ≤ r' → (ringRd (F := F) m).duties (cell c x) r' = ∅ := by
  intro r' h'; rw [duties_cell]; unfold dutiesOf; rw [if_neg (by omega)]

theorem expect_bar (h : r < 7) : (ringRd (F := F) m).expect (cell c barC) r = 2 := by
  unfold Schedule.expect Schedule.amountOf
  rw [duties_cell, Finset.sum_congr rfl fun b _ => amount_cell m c barC r b]
  unfold dutiesOf; rw [if_pos (show r < nrounds barC from h), if_pos rfl]; simp [amtOf]
theorem expect_xfer {v d k : Bool} (h : r < nrounds (some (v, d, k))) :
    (ringRd (F := F) m).expect (cell c (some (v, d, k))) r = amt k (ph k r) := by
  unfold Schedule.expect Schedule.amountOf
  rw [duties_cell, Finset.sum_congr rfl fun b _ => amount_cell m c _ r b]
  unfold dutiesOf; rw [if_pos h, if_neg (by simp), Finset.sum_singleton]; rfl

theorem rest_bar (h : r < 7) : bigSep ((ringRd (F := F) m).duties (cell c barC) r \ ∅) (fun b => (ringRd (F := F) m).payload (cell c barC) r b)
    = iprop(pay m c barC r false ∗ pay m c barC r true) := by
  rw [Finset.sdiff_empty, duties_cell]
  unfold dutiesOf
  rw [if_pos (show r < nrounds barC from h), if_pos rfl, bigSep_univ_eq_bigSepL [false, true] (by decide) (by decide), bigSepL_cons_cons, bigSepL_singleton,
    payload_cell, payload_cell]
  rfl
theorem rest_xfer {v d k : Bool} (h : r < nrounds (some (v, d, k))) :
    bigSep ((ringRd (F := F) m).duties (cell c (some (v, d, k))) r \ ∅) (fun b => (ringRd (F := F) m).payload (cell c (some (v, d, k))) r b)
    = pay m c (some (v, d, k)) r false := by
  rw [Finset.sdiff_empty, duties_cell]
  unfold dutiesOf
  rw [if_pos h, if_neg (by simp), bigSep_singleton, payload_cell]

end Tables

/-! ## What a device owes, in the order it pays it -/

/-- A payment: a signal to the neighbour in direction `d` for barrier `p`, or the transfer of piece `k` in direction `d` in
    phase `p`. -/
inductive Pmt where
  | sgl (d : Bool) (p : ℕ)
  | xf (d k : Bool) (p : ℕ)

namespace Pmt
/-- The neighbour it is for, as a direction; -/
def dir : Pmt → Bool
  | sgl d _ => d
  | xf d _ _ => d
/-- the cell of that neighbour's it is paid to, -/
def cid : Pmt → Cid
  | sgl _ _ => barC
  | xf d k _ => rcvC d k
/-- its round, -/
def rnd : Pmt → ℕ
  | sgl _ p => p
  | xf _ k p => rd k p
/-- its amount, -/
def am : Pmt → ℕ
  | sgl _ _ => 1
  | xf _ k p => amt k p
/-- the level of what it pays. -/
def lev : Pmt → ℕ
  | sgl _ p => 2 * p + 1
  | xf _ _ p => 2 * p + 2
/-- The cell it is paid to, paid by device `c`. -/
def dest (x : Pmt) (c : Dev nD) : GSem nD τ sig := cell (nbr x.dir c) x.cid
end Pmt

/-- The payments of phase `p`. -/
def phase (p : ℕ) : List Pmt :=
  [.sgl false p, .sgl true p] ++ (if p < 6 then [.xf true false p, .xf false false p] else [])
    ++ (if p < 6 ∧ p ≠ 4 then [.xf true true p, .xf false true p] else [])

/-- All of them. -/
def plan : List Pmt := (List.range 7).flatMap phase

/-- What `c` owes for the payments of a list, -/
def owed (c : Dev nD) : List Pmt → CellTallies nD τ sig ℕ
  | [] => 0
  | x :: l => owed c l + tallyAt (x.dest c) x.rnd x.am

/-- the tokens it makes them with, -/
def tok (c : Dev nD) : Pmt → sProp 𝕄
  | .sgl d p => dutyTok ER (cell (nbr d c) barC) p (!d)
  | .xf d k p => iprop(dutyTok ER (cell (nbr d c) (rcvC d k)) (rd k p) false ∗ dutyTok ER (cell c (sndC d k)) (rd k p) false)
def toks (c : Dev nD) : List Pmt → sProp 𝕄
  | [] => iprop(emp)
  | x :: l => iprop(tok c x ∗ toks c l)

/-- and the credit it has for the same payments made to it by its neighbours. -/
def crds (c : Dev nD) : List Pmt → sProp 𝕄
  | [] => iprop(emp)
  | x :: l => iprop(cred (tallyAt (cell c x.cid) x.rnd x.am) ∗ crds c l)

/-- A device that has made its first `n` payments. -/
def Pays (c : Dev nD) (n : ℕ) : sProp 𝕄 :=
  iprop((∃ W : Waits sig ℕ, owes (c : Thread nD τ) (owed c (plan.drop n)) W) ∗ toks c (plan.drop n))

/-! ## Levels -/

def L (g : GSem nD τ sig) : Finset ℕ := if g.1.2 = .tc then Finset.range 8 else ∅
/-- Barrier `p` is at `2p + 1`, the landings of phase `p` at `2p + 2`, everything else at 0. -/
def lv (g : GSem nD τ sig) (r : ℕ) : ℕ := match cidOf g.2 with
  | some none => 2 * r + 1
  | some (some (true, _, k)) => 2 * ph k r + 2
  | _ => 0

theorem L_of_ne (g : GSem nD τ sig) (h : g.1.2 ≠ .tc) : L g = ∅ := if_neg h
theorem mem_L (c : Dev nD) (sm : SemLoc sig) {r : ℕ} (h : r < 8) : r ∈ L ((c : Thread nD τ), sm) := by
  unfold L; rw [if_pos rfl]; exact Finset.mem_range.mpr h

/-- A payment's level is its cell's at its round. -/
def okPmt : Pmt → Bool
  | .sgl _ p => decide (p < 7)
  | .xf _ k p => decide (p < 6) && !(k && decide (p = 4))

theorem lv_to (x : Pmt) (hx : okPmt x = true) (c : Dev nD) : lv (x.dest c) x.rnd = x.lev ∧ x.rnd < 8 := by
  rcases x with ⟨d, p⟩ | ⟨d, k, p⟩
  · simp only [okPmt, decide_eq_true_eq] at hx
    refine ⟨?_, by simp only [Pmt.rnd]; omega⟩
    unfold lv Pmt.dest; dsimp only [cell]; rw [cidOf_csem]; rfl
  · simp only [okPmt, Bool.and_eq_true, decide_eq_true_eq, Bool.not_eq_true', Bool.and_eq_false_iff, decide_eq_false_iff_not] at hx
    obtain ⟨h1, h2⟩ := hx
    unfold lv Pmt.dest; dsimp only [cell]; rw [cidOf_csem]
    simp only [Pmt.cid, Pmt.rnd, Pmt.lev, rd, ph]
    cases k
    · exact ⟨rfl, show p < 8 by omega⟩
    · have h4 : p ≠ 4 := by simpa using h2
      simp only [↓reduceIte]
      constructor
      · split <;> split <;> omega
      · split <;> omega

theorem plan_ok : ∀ x ∈ plan, okPmt x = true := by decide

theorem owed_pos {c : Dev nD} {g : GSem nD τ sig} {r : ℕ} : ∀ {l : List Pmt}, 0 < owed c l g r → ∃ x ∈ l, g = x.dest c ∧ r = x.rnd
  | [], h => absurd h (Nat.lt_irrefl 0)
  | x :: l, h => by
    unfold owed at h
    rw [Pi.add_apply, Finsupp.add_apply, tallyAt_apply] at h
    by_cases hx : g = x.dest c ∧ r = x.rnd
    · exact ⟨x, List.mem_cons_self, hx⟩
    · rw [if_neg hx, Nat.add_zero] at h
      obtain ⟨y, hy, h'⟩ := owed_pos h
      exact ⟨y, List.mem_cons_of_mem _ hy, h'⟩

omit [FloatOps F] in
/-- A device may wait where the level is below that of every payment it still has to make. -/
theorem mayWait (c : Dev nD) (sm : SemLoc sig) (r n : ℕ) (hr : r < 8)
    (h : ∀ x ∈ plan.drop n, lv ((c : Thread nD τ), sm) r < x.lev) :
    (levAts L lv : sProp 𝕄) ⊢ MayWait (c : Thread nD τ) sm r (owed c (plan.drop n)) := by
  refine MayOwe.of_cut (L := L) (lev := lv) (lv ((c : Thread nD τ), sm) r)
    (fun p hp => by rw [Finset.mem_singleton.mp hp]; exact mem_L c sm hr)
    (fun g u hg => ?_) (fun p hp => by rw [Finset.mem_singleton.mp hp]) (fun g u hg => ?_)
  · obtain ⟨x, hx, rfl, rfl⟩ := owed_pos hg
    exact mem_L _ _ (lv_to x (plan_ok x (List.mem_of_mem_drop hx)) c).2
  · obtain ⟨x, hx, rfl, rfl⟩ := owed_pos hg
    rw [(lv_to x (plan_ok x (List.mem_of_mem_drop hx)) c).1]
    exact h x hx

end Cert.Gemm

end

end
-- ==== Proof.Prog.lean ====
/- The kernel's body as the sequence of its steps: barrier signals and waits, transfers to the neighbours and the waits for
   them, and loops that multiply, add and store tile by tile. -/
module

public import proofs.«01_k».proof.Proof.Ring

@[expose] public section

noncomputable section

namespace Cert.Gemm

open Cert.KernelIdeal Cert.KernelIdeal.Gen
open Idealize.ShloMosaic Idealize.ShloMosaic.TcCoe
open Idealize.SL.Sem

variable {F : FTy → Type} [FloatOps F]

variable (F) in
abbrev PT : Type → Type 1 := Prog (TpuEff nD τ sig (Elt F) Λ₀ .tc)

/-! ## Memrefs -/

abbrev xM : Memref sig .tc .hbm S4096x1024 .f32 := Memref.whole main_arg0
abbrev wM : Memref sig .tc .hbm S1024x8192 .f32 := Memref.whole main_arg1
abbrev oM : Memref sig .tc .hbm S4096x8192 .f32 := Memref.whole main_v1
/-- The staging tile, -/
abbrev stM : Memref sig .tc .vmem S1024x1024 .f32 := Memref.whole cc0_scratch0
/-- the rows of the first operand in use, -/
abbrev xcM : Memref sig .tc .vmem S1024x1024 .bf16 := Memref.whole cc0_scratch1
/-- the columns of the second operand in use, -/
abbrev wcM : Memref sig .tc .vmem S1024x1024 .bf16 := Memref.whole cc0_scratch2
/-- and the wide buffers. -/
abbrev bm : BufId → Memref sig .tc .vmem S1024x8192 .bf16
  | .A => Memref.whole cc0_scratch3
  | .B => Memref.whole cc0_scratch4
  | .P => Memref.whole cc0_scratch5

theorem hbm (b : BufId) : (bm b).IsWhole := by cases b <;> exact Memref.isWhole_whole _

/-! ## Pieces -/

/-- The columns of a piece in phase `p`: one past its last less its first. -/
abbrev wide (k : Bool) (p : ℕ) : ℕ := if k = false ∧ p = 4 then 4096 else 2048

theorem piece_inb (d k : Bool) (p : ℕ) : ∀ a, (![0, lo d k] : Fin 2 → ℕ) a + (![1024, wide k p] : Fin 2 → ℕ) a ≤ S1024x8192.size a := by
  intro a
  fin_cases a
  · show 0 + 1024 ≤ 1024; omega
  · show lo d k + wide k p ≤ 8192
    unfold lo wide; cases d <;> cases k <;> simp <;> (try split) <;> omega

abbrev pieceR (d k : Bool) (p : ℕ) : Rect S1024x8192 := Rect.unit (s := S1024x8192) ![0, lo d k] ![1024, wide k p] (piece_inb d k p)

theorem piece_words (d k : Bool) (p : ℕ) : (pieceR d k p).WholeWords (EltTy.packing .bf16) := by
  have key : ∀ (l w : ℕ) (h : ∀ a, (![0, l] : Fin 2 → ℕ) a + (![1024, w] : Fin 2 → ℕ) a ≤ S1024x8192.size a),
      ((l = 0 ∨ l = 4096) ∧ w = 4096) ∨ ((l = 0 ∨ l = 2048 ∨ l = 4096 ∨ l = 6144) ∧ w = 2048) →
      (Rect.unit (s := S1024x8192) ![0, l] ![1024, w] h).WholeWords (EltTy.packing .bf16) := by
    rintro l w h (⟨rfl | rfl, rfl⟩ | ⟨rfl | rfl | rfl | rfl, rfl⟩)
    · exact wordsbf16_S1024x8192_S1024x4096_0_0
    · exact wordsbf16_S1024x8192_S1024x4096_0_4096
    · exact wordsbf16_S1024x8192_S1024x2048_0_0
    · exact wordsbf16_S1024x8192_S1024x2048_0_2048
    · exact wordsbf16_S1024x8192_S1024x2048_0_4096
    · exact wordsbf16_S1024x8192_S1024x2048_0_6144
  refine key _ _ _ ?_
  unfold lo wide; cases d <;> cases k <;> simp <;> omega

/-- Piece `k` of direction `d` of buffer `b` in phase `p`. -/
abbrev pc (b : BufId) (d k : Bool) (p : ℕ) : Memref sig .tc .vmem ⟨2, ![1024, wide k p]⟩ .bf16 := (bm b).slice (pieceR d k p) (fun _ => rfl)

theorem pc_exact (b : BufId) (d k : Bool) (p : ℕ) : (pc b d k p).view.WordExact := (hbm b).wordExact_slice rfl _ (piece_words d k p)
theorem pc_nosc (b : BufId) (d k : Bool) (p : ℕ) : (pc b d k p).view.ref.isScScratch = false := by cases b <;> rfl

/-! ## The steps -/

/-- Signal device `n`'s barrier, -/
def sigP (n : Dev nD) : PT F PUnit := semSignalWord n barS 1#32
/-- and wait for both neighbours' signals. -/
def barP : PT F PUnit := semWaitWord barS 2#32

/-- Send piece `k` in direction `d` to device `n`, -/
def sendP (d k : Bool) (p : ℕ) (n : Dev nD) : PT F PUnit :=
  Prog.lift (.enqueueDma (pc (srcB p) d k p) (.remote (Dev.tc n) (pc (dstB p) d k p) (.dma (semNo (false, d, k))) (pc_nosc _ d k p))
    (.dma (semNo (true, d, k))) (pc_exact _ d k p) (pc_exact _ d k p) ⟨⟨rfl, Or.inl rfl⟩, trivial⟩)
/-- wait until it is sent, -/
def sentP (d k : Bool) (p : ℕ) : PT F PUnit :=
  Prog.lift (.waitDma2 (semNo (false, d, k)) (pc (dstB p) d k p) (pc (srcB p) d k p) (pc_exact _ d k p) (pc_exact _ d k p))
/-- and wait for the neighbour's. -/
def recvP (d k : Bool) (p : ℕ) : PT F PUnit :=
  Prog.lift (.waitDma2 (semNo (true, d, k)) (pc (srcB p) d k p) (pc (dstB p) d k p) (pc_exact _ d k p) (pc_exact _ d k p))

/-- The whole of a tile buffer. -/
abbrev allR : Rect S1024x1024 := Rect.unit (s := S1024x1024) ![0, 0] S1024x1024.size inb_S1024x1024_S1024x1024_0_0
abbrev tR (o : Fin 2 → ℕ) (h : ∀ a, o a + S1024x1024.size a ≤ S1024x8192.size a) : Rect S1024x8192 := Rect.unit (s := S1024x8192) o S1024x1024.size h

/-- Fetch 1024 rows of the first operand: the transfer, -/
def xFetchP (o : Fin 2 → ℕ) (h : ∀ a, o a + S1024x1024.size a ≤ S4096x1024.size a) : PT F PUnit :=
  Prog.lift (.enqueueDma (xM.slice (Rect.unit (s := S4096x1024) o S1024x1024.size h) (fun _ => rfl)) (.here stM) (.dma locS)
    (View.wordExact_bits rfl) (Memref.isWhole_whole cc0_scratch0).wordExact ⟨Or.inl rfl, trivial⟩)
/-- and the wait for it and the rounding. -/
def xRoundP (o : Fin 2 → ℕ) (h : ∀ a, o a + S1024x1024.size a ≤ S4096x1024.size a) : PT F PUnit := do
  Prog.lift (.waitDma2 locS (xM.slice (Rect.unit (s := S4096x1024) o S1024x1024.size h) (fun _ => rfl)) stM
    (View.wordExact_bits rfl) (Memref.isWhole_whole cc0_scratch0).wordExact)
  let v : Vec F S1024x1024 .f32 ← Prog.lift (.load stM allR.toLoadRect (View.loadsAt_vmem h_S1024x1024))
  let _ : Vec F S1024x1024 .bf16 ← Prog.lift (.load xcM allR.toLoadRect (View.loadsAt_vmem h_S1024x1024))
  Prog.lift (.store xcM allR (k0_pay3 v) Finset.univ
    (View.stores_vmem h_S1024x1024 ((Memref.isWhole_whole cc0_scratch1).storeExact_slice rfl _ packedbf16_S1024x1024_S1024x1024_0_0) (fun _ => rfl)) (.inl rfl))

/-- Multiply the rows in use with one tile of the second operand into one tile of a wide buffer. -/
def mulP (b : BufId) (ow : Fin 2 → ℕ) (hw : ∀ a, ow a + S1024x1024.size a ≤ S1024x8192.size a)
    (ob : Fin 2 → ℕ) (hb : ∀ a, ob a + S1024x1024.size a ≤ S1024x8192.size a) (hp : (tR ob hb).PackedRows (EltTy.packing .bf16)) : PT F Unit := do
  Prog.lift (.enqueueDma (wM.slice (tR ow hw) (fun _ => rfl)) (.here stM) (.dma locS)
    (View.wordExact_bits rfl) (Memref.isWhole_whole cc0_scratch0).wordExact ⟨Or.inl rfl, trivial⟩)
  Prog.lift (.waitDma2 locS (wM.slice (tR ow hw) (fun _ => rfl)) stM (View.wordExact_bits rfl) (Memref.isWhole_whole cc0_scratch0).wordExact)
  let v : Vec F S1024x1024 .f32 ← Prog.lift (.load stM allR.toLoadRect (View.loadsAt_vmem h_S1024x1024))
  let _ : Vec F S1024x1024 .bf16 ← Prog.lift (.load wcM allR.toLoadRect (View.loadsAt_vmem h_S1024x1024))
  Prog.lift (.store wcM allR (k0_pay4 v) Finset.univ
    (View.stores_vmem h_S1024x1024 ((Memref.isWhole_whole cc0_scratch2).storeExact_slice rfl _ packedbf16_S1024x1024_S1024x1024_0_0) (fun _ => rfl)) (.inl rfl))
  let x : Vec F S1024x1024 .bf16 ← Prog.lift (.load xcM allR.toLoadRect (View.loadsAt_vmem h_S1024x1024))
  let w : Vec F S1024x1024 .bf16 ← Prog.lift (.load wcM allR.toLoadRect (View.loadsAt_vmem h_S1024x1024))
  let _ : Vec F S1024x1024 .bf16 ← Prog.lift (.load (bm b) (tR ob hb).toLoadRect (View.loadsAt_vmem h_S1024x1024))
  Prog.lift (.store (bm b) (tR ob hb) (k0_pay5 x w) Finset.univ
    (View.stores_vmem h_S1024x1024 ((hbm b).storeExact_slice rfl _ hp) (fun _ => rfl)) (.inl rfl))
  pure ⟨⟩

/-- Add one tile of the fresh products into one tile of a buffer, by `f`. -/
def addP (f : Vec F S1024x1024 .bf16 → Vec F S1024x1024 .bf16 → Vec F S1024x1024 .bf16) (b : BufId)
    (ob : Fin 2 → ℕ) (hb : ∀ a, ob a + S1024x1024.size a ≤ S1024x8192.size a) (hp : (tR ob hb).PackedRows (EltTy.packing .bf16)) : PT F Unit := do
  let u : Vec F S1024x1024 .bf16 ← Prog.lift (.load (bm b) (tR ob hb).toLoadRect (View.loadsAt_vmem h_S1024x1024))
  let v : Vec F S1024x1024 .bf16 ← Prog.lift (.load (bm .P) (tR ob hb).toLoadRect (View.loadsAt_vmem h_S1024x1024))
  let _ : Vec F S1024x1024 .bf16 ← Prog.lift (.load (bm b) (tR ob hb).toLoadRect (View.loadsAt_vmem h_S1024x1024))
  Prog.lift (.store (bm b) (tR ob hb) (f u v) Finset.univ
    (View.stores_vmem h_S1024x1024 ((hbm b).storeExact_slice rfl _ hp) (fun _ => rfl)) (.inl rfl))
  pure ⟨⟩

/-- Store one tile of a buffer to the result. -/
def outP (b : BufId) (ob : Fin 2 → ℕ) (hb : ∀ a, ob a + S1024x1024.size a ≤ S1024x8192.size a)
    (oo : Fin 2 → ℕ) (ho : ∀ a, oo a + S1024x1024.size a ≤ S4096x8192.size a) : PT F Unit := do
  let v : Vec F S1024x1024 .bf16 ← Prog.lift (.load (bm b) (tR ob hb).toLoadRect (View.loadsAt_vmem h_S1024x1024))
  let _ : Vec F S1024x1024 .f32 ← Prog.lift (.load stM allR.toLoadRect (View.loadsAt_vmem h_S1024x1024))
  Prog.lift (.store stM allR (k0_pay1 v) Finset.univ (View.stores_vmem_bits_univ h_S1024x1024 rfl) (.inl rfl))
  Prog.lift (.enqueueDma stM (.here (oM.slice (Rect.unit (s := S4096x8192) oo S1024x1024.size ho) (fun _ => rfl))) (.dma locS)
    (Memref.isWhole_whole cc0_scratch0).wordExact (View.wordExact_bits rfl) ⟨Or.inl rfl, trivial⟩)
  Prog.lift (.waitDma2 locS stM (oM.slice (Rect.unit (s := S4096x8192) oo S1024x1024.size ho) (fun _ => rfl))
    (Memref.isWhole_whole cc0_scratch0).wordExact (View.wordExact_bits rfl))
  pure ⟨⟩

/-! ## The loops over tiles -/

def mulL (b : BufId) (l : Scf.Loop 32) (ok : l.OK) (ow ob : Fin l.trips → Fin 2 → ℕ)
    (hw : ∀ k a, ow k a + S1024x1024.size a ≤ S1024x8192.size a) (hb : ∀ k a, ob k a + S1024x1024.size a ≤ S1024x8192.size a)
    (hp : ∀ k, (tR (ob k) (hb k)).PackedRows (EltTy.packing .bf16)) : PT F Unit :=
  Scf.Loop.for l ok ⟨⟩ fun k _ => mulP b (ow k) (hw k) (ob k) (hb k) (hp k)

def addL (f : Vec F S1024x1024 .bf16 → Vec F S1024x1024 .bf16 → Vec F S1024x1024 .bf16) (b : BufId) (l : Scf.Loop 32) (ok : l.OK)
    (ob : Fin l.trips → Fin 2 → ℕ) (hb : ∀ k a, ob k a + S1024x1024.size a ≤ S1024x8192.size a)
    (hp : ∀ k, (tR (ob k) (hb k)).PackedRows (EltTy.packing .bf16)) : PT F Unit :=
  Scf.Loop.for l ok ⟨⟩ fun k _ => addP f b (ob k) (hb k) (hp k)

def outL (b : BufId) (l : Scf.Loop 32) (ok : l.OK) (ob oo : Fin l.trips → Fin 2 → ℕ)
    (hb : ∀ k a, ob k a + S1024x1024.size a ≤ S1024x8192.size a) (ho : ∀ k a, oo k a + S1024x1024.size a ≤ S4096x8192.size a) : PT F Unit :=
  Scf.Loop.for l ok ⟨⟩ fun k _ => outP b (ob k) (hb k) (oo k) (ho k)

end Cert.Gemm

end

end
-- ==== Proof.Parts.lean ====
/- The printed kernel is the sequence of its steps. -/
module

public import proofs.«01_k».proof.Proof.Prog

@[expose] public section

noncomputable section

namespace Cert.Gemm

open Cert.KernelIdeal Cert.KernelIdeal.Gen
open Idealize.ShloMosaic Idealize.ShloMosaic.TcCoe
open Idealize.SL.Sem

variable {F : FTy → Type} [FloatOps F]

/-! ## The loops of the kernel, in its order -/

def lp1 : PT F Unit := mulL .A k0_t1_loop k0_t1_ok k0_off2 k0_off3 k0_off2_inb k0_off3_inb k0_off3_packedbf16
def lp2 : PT F Unit := mulL .A k0_t2_loop k0_t2_ok k0_off4 k0_off5 k0_off4_inb k0_off5_inb k0_off5_packedbf16
def lp3 : PT F Unit := mulL .A k0_t3_loop k0_t3_ok k0_off6 k0_off7 k0_off6_inb k0_off7_inb k0_off7_packedbf16
def lp4 : PT F Unit := mulL .A k0_t4_loop k0_t4_ok k0_off8 k0_off9 k0_off8_inb k0_off9_inb k0_off9_packedbf16
def lp5 : PT F Unit := mulL .P k0_t5_loop k0_t5_ok k0_off11 k0_off12 k0_off11_inb k0_off12_inb k0_off12_packedbf16
def lp6 : PT F Unit := mulL .P k0_t6_loop k0_t6_ok k0_off13 k0_off14 k0_off13_inb k0_off14_inb k0_off14_packedbf16
def lp7 : PT F Unit := addL k0_pay18 .B k0_t7_loop k0_t7_ok k0_off15 k0_off15_inb k0_off15_packedbf16
def lp8 : PT F Unit := mulL .P k0_t8_loop k0_t8_ok k0_off16 k0_off17 k0_off16_inb k0_off17_inb k0_off17_packedbf16
def lp9 : PT F Unit := addL k0_pay18 .A k0_t9_loop k0_t9_ok k0_off18 k0_off18_inb k0_off18_packedbf16
def lp10 : PT F Unit := addL k0_pay18 .A k0_t10_loop k0_t10_ok k0_off19 k0_off19_inb k0_off19_packedbf16
def lp11 : PT F Unit := addL k0_pay18 .A k0_t11_loop k0_t11_ok k0_off20 k0_off20_inb k0_off20_packedbf16
def lp12 : PT F Unit := addL k0_pay18 .A k0_t12_loop k0_t12_ok k0_off21 k0_off21_inb k0_off21_packedbf16
def lp13 : PT F Unit := mulL .P k0_t13_loop k0_t13_ok k0_off22 k0_off23 k0_off22_inb k0_off23_inb k0_off23_packedbf16
def lp14 : PT F Unit := mulL .P k0_t14_loop k0_t14_ok k0_off24 k0_off25 k0_off24_inb k0_off25_inb k0_off25_packedbf16
def lp15 : PT F Unit := addL k0_pay32 .B k0_t15_loop k0_t15_ok k0_off26 k0_off26_inb k0_off26_packedbf16
def lp16 : PT F Unit := addL k0_pay32 .B k0_t16_loop k0_t16_ok k0_off27 k0_off27_inb k0_off27_packedbf16
def lp17 : PT F Unit := addL k0_pay32 .B k0_t17_loop k0_t17_ok k0_off28 k0_off28_inb k0_off28_packedbf16
def lp18 : PT F Unit := addL k0_pay32 .B k0_t18_loop k0_t18_ok k0_off29 k0_off29_inb k0_off29_packedbf16
def lp19 (d : Dev nD) : PT F Unit := outL .B k0_t19_loop k0_t19_ok k0_off30 (k0_off31 d) k0_off30_inb (k0_off31_inb d)
def lp20 (d : Dev nD) : PT F Unit := outL .B k0_t20_loop k0_t20_ok k0_off32 (k0_off33 d) k0_off32_inb (k0_off33_inb d)
def lp21 (d : Dev nD) : PT F Unit := outL .A k0_t21_loop k0_t21_ok k0_off34 (k0_off35 d) k0_off34_inb (k0_off35_inb d)
def lp22 (d : Dev nD) : PT F Unit := outL .A k0_t22_loop k0_t22_ok k0_off36 (k0_off37 d) k0_off36_inb (k0_off37_inb d)
def lp23 (d : Dev nD) : PT F Unit := outL .B k0_t23_loop k0_t23_ok k0_off38 (k0_off39 d) k0_off38_inb (k0_off39_inb d)
def lp24 (d : Dev nD) : PT F Unit := outL .B k0_t24_loop k0_t24_ok k0_off40 (k0_off41 d) k0_off40_inb (k0_off41_inb d)
def lp25 (d : Dev nD) : PT F Unit := outL .A k0_t25_loop k0_t25_ok k0_off42 (k0_off43 d) k0_off42_inb (k0_off43_inb d)
def lp26 (d : Dev nD) : PT F Unit := outL .A k0_t26_loop k0_t26_ok k0_off44 (k0_off45 d) k0_off44_inb (k0_off45_inb d)
def lp27 (d : Dev nD) : PT F Unit := outL .A k0_t27_loop k0_t27_ok k0_off46 (k0_off47 d) k0_off46_inb (k0_off47_inb d)
def lp28 (d : Dev nD) : PT F Unit := outL .A k0_t28_loop k0_t28_ok k0_off48 (k0_off49 d) k0_off48_inb (k0_off49_inb d)

/-- A fetch of rows of the first operand and its rounding. -/
def xP (o : Fin 2 → ℕ) (h : ∀ a, o a + S1024x1024.size a ≤ S4096x1024.size a) : PT F PUnit := do
  xFetchP o h
  xRoundP o h

/-- Wait for both ends of piece `k` in direction `d`. -/
def endP (d k : Bool) (p : ℕ) : PT F PUnit := do
  sentP d k p
  recvP d k p

/-! ## The parts of the kernel -/

/-- A function of the kernel's buffers at the launch's. -/
abbrev onBufs {β : Type 1} (f : (arg0 : Memref sig .tc .hbm S4096x1024 .f32) → arg0.IsWhole → (arg1 : Memref sig .tc .hbm S1024x8192 .f32) → arg1.IsWhole →
    (arg2 : Memref sig .tc .hbm S4096x8192 .f32) → arg2.IsWhole → (arg3 : Memref sig .tc .vmem S1024x1024 .f32) → arg3.IsWhole →
    (arg4 : Memref sig .tc .vmem S1024x1024 .bf16) → arg4.IsWhole → (arg5 : Memref sig .tc .vmem S1024x1024 .bf16) → arg5.IsWhole →
    (arg6 : Memref sig .tc .vmem S1024x8192 .bf16) → arg6.IsWhole → (arg7 : Memref sig .tc .vmem S1024x8192 .bf16) → arg7.IsWhole →
    (arg8 : Memref sig .tc .vmem S1024x8192 .bf16) → arg8.IsWhole →
    DmaSems sig S_ → DmaSems sig S2 → DmaSems sig S2 → DmaSems sig S2 → DmaSems sig S2 → β) : β :=
  f (Memref.whole main_arg0) (Memref.isWhole_whole _) (Memref.whole main_arg1) (Memref.isWhole_whole _) (Memref.whole main_v1) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    cc0_scratch6 cc0_scratch7 cc0_scratch8 cc0_scratch9 cc0_scratch10

def seq1 (d : Dev nD) : PT F PUnit := do
  sigP ⟨k0_dev1 d, k0_dev1_lt d⟩
  sigP ⟨k0_dev2 d, k0_dev2_lt d⟩
  barP
  xFetchP (k0_off1 d) (k0_off1_inb d)
  xRoundP (k0_off1 d) (k0_off1_inb d)
  lp1
  pure ⟨⟩
theorem part1 : onBufs (k0_part1 (F := F)) = (do
    let d : Dev nD ← Prog.lift .deviceId
    seq1 d
    pure ⟨d, Scalar.remsi (Scalar.divsi (Dev.word d) 1#32) 4#32,
      Scalar.remsi (Scalar.addi (Scalar.remsi (Scalar.divsi (Dev.word d) 1#32) 4#32) 1#32) 4#32,
      Scalar.remsi (Scalar.subi (Scalar.addi (Scalar.remsi (Scalar.divsi (Dev.word d) 1#32) 4#32) 4#32) 1#32) 4#32,
      SemArray.scalar (sig.barrier 0 rfl), 0#32, 1#32⟩) := by
  simp only [seq1, bind_assoc, pure_bind]
  rfl

def seq2 (d : Dev nD) : PT F PUnit := do
  lp2
  sendP true false 0 ⟨k0_dev3 d, k0_dev3_lt d⟩
  sendP false false 0 ⟨k0_dev4 d, k0_dev4_lt d⟩
  lp3
  lp4
  pure ⟨⟩
theorem part2 (d : Dev nD) (v4 : BitVec 32) (v7 : BitVec 32) (z1 : BitVec 32) (z2 : BitVec 32) : onBufs (k0_part2 (F := F)) d v4 v7 z1 z2 = seq2 d := rfl

def seq3 (d : Dev nD) : PT F PUnit := do
  sendP true true 0 ⟨k0_dev5 d, k0_dev5_lt d⟩
  sendP false true 0 ⟨k0_dev6 d, k0_dev6_lt d⟩
  xFetchP (k0_off10 d 3#32) (k0_off10_inb d 2)
  xRoundP (k0_off10 d 3#32) (k0_off10_inb d 2)
  lp5
  xFetchP (k0_off10 d 1#32) (k0_off10_inb d 0)
theorem part3 (d : Dev nD) (v2 : BitVec 32) (v7 : BitVec 32) : onBufs (k0_part3 (F := F)) d v2 v7 = seq3 d := rfl

def seq4 (d : Dev nD) : PT F PUnit := do
  xRoundP (k0_off10 d 1#32) (k0_off10_inb d 0)
  lp6
  sentP true false 0
  recvP true false 0
  sentP false false 0
theorem part4 (d : Dev nD) (v4 : BitVec 32) : onBufs (k0_part4 (F := F)) d v4 = (do seq4 d; pure 1#32) := by
  simp only [seq4, bind_assoc]
  rfl

def seq5 (d : Dev nD) : PT F PUnit := do
  recvP false false 0
  sentP true true 0
  recvP true true 0
  sentP false true 0
theorem part5 (v4 : BitVec 32) (v7 : BitVec 32) (z1 : BitVec 32) (d : Dev nD) : onBufs (k0_part5 (F := F)) v4 v7 z1 = seq5 d := rfl

def seq6 (d : Dev nD) : PT F PUnit := do
  recvP false true 0
  lp7
  sigP ⟨k0_dev7 d, k0_dev7_lt d⟩
  sigP ⟨k0_dev8 d, k0_dev8_lt d⟩
  barP
  sendP true false 1 ⟨k0_dev9 d, k0_dev9_lt d⟩
theorem part6 (d : Dev nD) (v4 : BitVec 32) (v7 : BitVec 32) : onBufs (k0_part6 (F := F)) d v4 v7 (SemArray.scalar (sig.barrier 0 rfl)) = seq6 d := rfl

def seq7 (d : Dev nD) : PT F PUnit := do
  sendP false false 1 ⟨k0_dev10 d, k0_dev10_lt d⟩
  sendP true true 1 ⟨k0_dev11 d, k0_dev11_lt d⟩
  sendP false true 1 ⟨k0_dev12 d, k0_dev12_lt d⟩
  xFetchP (k0_off10 d 2#32) (k0_off10_inb d 1)
  xRoundP (k0_off10 d 2#32) (k0_off10_inb d 1)
theorem part7 (d : Dev nD) (v2 : BitVec 32) (v4 : BitVec 32) (v7 : BitVec 32) : onBufs (k0_part7 (F := F)) d v2 v4 v7 = (do seq7 d; pure 0#32) := by
  simp only [seq7, bind_assoc]
  rfl

def seq8 (d : Dev nD) : PT F PUnit := do
  lp8
  sentP true false 1
  recvP true false 1
  sentP false false 1
  recvP false false 1
theorem part8 (v4 : BitVec 32) (v7 : BitVec 32) (z1 : BitVec 32) (d : Dev nD) : onBufs (k0_part8 (F := F)) v4 v7 z1 = (do seq8 d; pure 0#32) := by
  simp only [seq8, bind_assoc]
  rfl

def seq9 (d : Dev nD) : PT F PUnit := do
  lp9
  lp10
  sentP true true 1
  recvP true true 1
  sentP false true 1
theorem part9 (v4 : BitVec 32) (v7 : BitVec 32) (z1 : BitVec 32) (d : Dev nD) : onBufs (k0_part9 (F := F)) v4 v7 z1 = seq9 d := rfl

def seq10 (d : Dev nD) : PT F PUnit := do
  recvP false true 1
  lp11
  lp12
  sigP ⟨k0_dev13 d, k0_dev13_lt d⟩
  sigP ⟨k0_dev14 d, k0_dev14_lt d⟩
  barP
  sendP true false 2 ⟨k0_dev15 d, k0_dev15_lt d⟩
theorem part10 (d : Dev nD) (v4 : BitVec 32) (v7 : BitVec 32) : onBufs (k0_part10 (F := F)) d v4 v7 (SemArray.scalar (sig.barrier 0 rfl)) = seq10 d := rfl

def seq11 (d : Dev nD) : PT F PUnit := do
  sendP false false 2 ⟨k0_dev16 d, k0_dev16_lt d⟩
  sendP true true 2 ⟨k0_dev17 d, k0_dev17_lt d⟩
  sendP false true 2 ⟨k0_dev18 d, k0_dev18_lt d⟩
  xFetchP (k0_off10 d 1#32) (k0_off10_inb d 0)
  xRoundP (k0_off10 d 1#32) (k0_off10_inb d 0)
theorem part11 (d : Dev nD) (v2 : BitVec 32) (v4 : BitVec 32) (v7 : BitVec 32) : onBufs (k0_part11 (F := F)) d v2 v4 v7 = seq11 d := rfl

def seq12 (d : Dev nD) : PT F PUnit := do
  lp13
  xFetchP (k0_off10 d 3#32) (k0_off10_inb d 2)
  xRoundP (k0_off10 d 3#32) (k0_off10_inb d 2)
  lp14
  sentP true false 2
theorem part12 (d : Dev nD) (v2 : BitVec 32) (v4 : BitVec 32) : onBufs (k0_part12 (F := F)) d v2 v4 = seq12 d := rfl

def seq13 (d : Dev nD) : PT F PUnit := do
  recvP true false 2
  sentP false false 2
  recvP false false 2
  lp15
  lp16
  sentP true true 2
theorem part13 (v4 : BitVec 32) (v7 : BitVec 32) (d : Dev nD) : onBufs (k0_part13 (F := F)) v4 v7 = seq13 d := rfl

def seq14 (d : Dev nD) : PT F PUnit := do
  recvP true true 2
  sentP false true 2
  recvP false true 2
  sigP ⟨k0_dev19 d, k0_dev19_lt d⟩
  sigP ⟨k0_dev20 d, k0_dev20_lt d⟩
  barP
theorem part14 (d : Dev nD) (v4 : BitVec 32) (v7 : BitVec 32) : onBufs (k0_part14 (F := F)) d v4 v7 (SemArray.scalar (sig.barrier 0 rfl)) = seq14 d := rfl

def seq15 (d : Dev nD) : PT F PUnit := do
  sendP true false 3 ⟨k0_dev21 d, k0_dev21_lt d⟩
  sendP false false 3 ⟨k0_dev22 d, k0_dev22_lt d⟩
  lp17
  lp18
  sendP true true 3 ⟨k0_dev23 d, k0_dev23_lt d⟩
theorem part15 (d : Dev nD) (v4 : BitVec 32) (v7 : BitVec 32) : onBufs (k0_part15 (F := F)) d v4 v7 = seq15 d := rfl

def seq16 (d : Dev nD) : PT F PUnit := do
  sendP false true 3 ⟨k0_dev24 d, k0_dev24_lt d⟩
  lp19 d
  lp20 d
  sentP true false 3
  recvP true false 3
theorem part16 (d : Dev nD) (v2 : BitVec 32) (v4 : BitVec 32) : onBufs (k0_part16 (F := F)) d v2 v4 = seq16 d := rfl

def seq17 (d : Dev nD) : PT F PUnit := do
  sentP false false 3
  recvP false false 3
  sentP true true 3
  recvP true true 3
theorem part17 (v4 : BitVec 32) (v7 : BitVec 32) (d : Dev nD) : onBufs (k0_part17 (F := F)) v4 v7 = seq17 d := rfl

def seq18 (d : Dev nD) : PT F PUnit := do
  sentP false true 3
  recvP false true 3
  sigP ⟨k0_dev25 d, k0_dev25_lt d⟩
  sigP ⟨k0_dev26 d, k0_dev26_lt d⟩
  barP
  sendP true false 4 ⟨k0_dev27 d, k0_dev27_lt d⟩
theorem part18 (d : Dev nD) (v4 : BitVec 32) (v7 : BitVec 32) : onBufs (k0_part18 (F := F)) d v4 v7 (SemArray.scalar (sig.barrier 0 rfl)) = seq18 d := rfl

def seq19 (d : Dev nD) : PT F PUnit := do
  sendP false false 4 ⟨k0_dev28 d, k0_dev28_lt d⟩
  lp21 d
  lp22 d
  sentP true false 4
  recvP true false 4
  sentP false false 4
theorem part19 (d : Dev nD) (v2 : BitVec 32) (v4 : BitVec 32) : onBufs (k0_part19 (F := F)) d v2 v4 = (do seq19 d; pure 1#32) := by
  simp only [seq19, bind_assoc]
  rfl

def seq20 (d : Dev nD) : PT F PUnit := do
  recvP false false 4
  sigP ⟨k0_dev29 d, k0_dev29_lt d⟩
  sigP ⟨k0_dev30 d, k0_dev30_lt d⟩
  barP
  sendP true false 5 ⟨k0_dev31 d, k0_dev31_lt d⟩
theorem part20 (d : Dev nD) (v4 : BitVec 32) (v7 : BitVec 32) (z1 : BitVec 32) : onBufs (k0_part20 (F := F)) d v4 v7 (SemArray.scalar (sig.barrier 0 rfl)) z1 = seq20 d := rfl

def seq21 (d : Dev nD) : PT F PUnit := do
  sendP false false 5 ⟨k0_dev32 d, k0_dev32_lt d⟩
  sendP true true 5 ⟨k0_dev33 d, k0_dev33_lt d⟩
  sendP false true 5 ⟨k0_dev34 d, k0_dev34_lt d⟩
  lp23 d
  lp24 d
  pure ⟨⟩
theorem part21 (d : Dev nD) (v2 : BitVec 32) (v4 : BitVec 32) (v7 : BitVec 32) : onBufs (k0_part21 (F := F)) d v2 v4 v7 = seq21 d := rfl

def seq22 (d : Dev nD) : PT F PUnit := do
  sentP true false 5
  recvP true false 5
  sentP false false 5
  recvP false false 5
  lp25 d
  pure ⟨⟩
theorem part22 (d : Dev nD) (v2 : BitVec 32) (v4 : BitVec 32) (v7 : BitVec 32) : ∃ v : BitVec 32, onBufs (k0_part22 (F := F)) d v2 v4 v7 = (do seq22 d; pure ⟨v, 0#32⟩) :=
  ⟨_, by simp only [seq22, bind_assoc, pure_bind]; rfl⟩

def seq23 (d : Dev nD) : PT F PUnit := do
  lp26 d
  sentP true true 5
  recvP true true 5
  sentP false true 5
  recvP false true 5
theorem part23 (d : Dev nD) (v4 : BitVec 32) (v7 : BitVec 32) (v500 : BitVec 32) (z1 : BitVec 32) : onBufs (k0_part23 (F := F)) d v4 v7 v500 z1 = (do seq23 d; pure 0#32) := by
  simp only [seq23, bind_assoc]
  rfl

/-! ## The phases, from one barrier to the next -/

def ph0 (d : Dev nD) : PT F PUnit := do
  sigP ⟨k0_dev1 d, k0_dev1_lt d⟩
  sigP ⟨k0_dev2 d, k0_dev2_lt d⟩
  barP
  xP (k0_off1 d) (k0_off1_inb d)
  lp1
  lp2
  sendP true false 0 ⟨k0_dev3 d, k0_dev3_lt d⟩
  sendP false false 0 ⟨k0_dev4 d, k0_dev4_lt d⟩
  lp3
  lp4
  sendP true true 0 ⟨k0_dev5 d, k0_dev5_lt d⟩
  sendP false true 0 ⟨k0_dev6 d, k0_dev6_lt d⟩
  xP (k0_off10 d 3#32) (k0_off10_inb d 2)
  lp5
  xP (k0_off10 d 1#32) (k0_off10_inb d 0)
  lp6
  endP true false 0
  endP false false 0
  endP true true 0
  endP false true 0
  lp7

def ph1 (d : Dev nD) : PT F PUnit := do
  sigP ⟨k0_dev7 d, k0_dev7_lt d⟩
  sigP ⟨k0_dev8 d, k0_dev8_lt d⟩
  barP
  sendP true false 1 ⟨k0_dev9 d, k0_dev9_lt d⟩
  sendP false false 1 ⟨k0_dev10 d, k0_dev10_lt d⟩
  sendP true true 1 ⟨k0_dev11 d, k0_dev11_lt d⟩
  sendP false true 1 ⟨k0_dev12 d, k0_dev12_lt d⟩
  xP (k0_off10 d 2#32) (k0_off10_inb d 1)
  lp8
  endP true false 1
  endP false false 1
  lp9
  lp10
  endP true true 1
  endP false true 1
  lp11
  lp12

def ph2 (d : Dev nD) : PT F PUnit := do
  sigP ⟨k0_dev13 d, k0_dev13_lt d⟩
  sigP ⟨k0_dev14 d, k0_dev14_lt d⟩
  barP
  sendP true false 2 ⟨k0_dev15 d, k0_dev15_lt d⟩
  sendP false false 2 ⟨k0_dev16 d, k0_dev16_lt d⟩
  sendP true true 2 ⟨k0_dev17 d, k0_dev17_lt d⟩
  sendP false true 2 ⟨k0_dev18 d, k0_dev18_lt d⟩
  xP (k0_off10 d 1#32) (k0_off10_inb d 0)
  lp13
  xP (k0_off10 d 3#32) (k0_off10_inb d 2)
  lp14
  endP true false 2
  endP false false 2
  lp15
  lp16
  endP true true 2
  endP false true 2

def ph3 (d : Dev nD) : PT F PUnit := do
  sigP ⟨k0_dev19 d, k0_dev19_lt d⟩
  sigP ⟨k0_dev20 d, k0_dev20_lt d⟩
  barP
  sendP true false 3 ⟨k0_dev21 d, k0_dev21_lt d⟩
  sendP false false 3 ⟨k0_dev22 d, k0_dev22_lt d⟩
  lp17
  lp18
  sendP true true 3 ⟨k0_dev23 d, k0_dev23_lt d⟩
  sendP false true 3 ⟨k0_dev24 d, k0_dev24_lt d⟩
  lp19 d
  lp20 d
  endP true false 3
  endP false false 3
  endP true true 3
  endP false true 3

def ph4 (d : Dev nD) : PT F PUnit := do
  sigP ⟨k0_dev25 d, k0_dev25_lt d⟩
  sigP ⟨k0_dev26 d, k0_dev26_lt d⟩
  barP
  sendP true false 4 ⟨k0_dev27 d, k0_dev27_lt d⟩
  sendP false false 4 ⟨k0_dev28 d, k0_dev28_lt d⟩
  lp21 d
  lp22 d
  endP true false 4
  endP false false 4

def ph5 (d : Dev nD) : PT F PUnit := do
  sigP ⟨k0_dev29 d, k0_dev29_lt d⟩
  sigP ⟨k0_dev30 d, k0_dev30_lt d⟩
  barP
  sendP true false 5 ⟨k0_dev31 d, k0_dev31_lt d⟩
  sendP false false 5 ⟨k0_dev32 d, k0_dev32_lt d⟩
  sendP true true 5 ⟨k0_dev33 d, k0_dev33_lt d⟩
  sendP false true 5 ⟨k0_dev34 d, k0_dev34_lt d⟩
  lp23 d
  lp24 d
  endP true false 5
  endP false false 5
  lp25 d
  lp26 d
  endP true true 5
  endP false true 5
  lp27 d
  lp28 d

def ph6 (d : Dev nD) : PT F PUnit := do
  sigP ⟨k0_dev35 d, k0_dev35_lt d⟩
  sigP ⟨k0_dev36 d, k0_dev36_lt d⟩
  barP

/-- The kernel is its phases in order. -/
theorem body_eq : onBufs (cc0_body (F := F)) = (do
    let d : Dev nD ← Prog.lift .deviceId
    ph0 d; ph1 d; ph2 d; ph3 d; ph4 d; ph5 d; ph6 d) := by
  have h : onBufs (cc0_body (F := F)) = onBufs (cc0_body_skel (F := F)) := rfl
  obtain h22 := @part22 F _
  rw [h]
  show (do
    let ⟨d0, v2, v4, v7, v8, c0, c1⟩ : Σ' (d0 : Dev nD) (v2 : BitVec 32) (v4 : BitVec 32) (v7 : BitVec 32) (v8 : Sems sig S_) (c0 : BitVec 32), BitVec 32 ← onBufs (k0_part1 (F := F))
    onBufs (k0_part2 (F := F)) d0 v4 v7 c0 c1
    onBufs (k0_part3 (F := F)) d0 v2 v7
    let a : BitVec 32 ← onBufs (k0_part4 (F := F)) d0 v4
    onBufs (k0_part5 (F := F)) v4 v7 a
    onBufs (k0_part6 (F := F)) d0 v4 v7 v8
    let b : BitVec 32 ← onBufs (k0_part7 (F := F)) d0 v2 v4 v7
    let e : BitVec 32 ← onBufs (k0_part8 (F := F)) v4 v7 b
    onBufs (k0_part9 (F := F)) v4 v7 e
    onBufs (k0_part10 (F := F)) d0 v4 v7 v8
    onBufs (k0_part11 (F := F)) d0 v2 v4 v7
    onBufs (k0_part12 (F := F)) d0 v2 v4
    onBufs (k0_part13 (F := F)) v4 v7
    onBufs (k0_part14 (F := F)) d0 v4 v7 v8
    onBufs (k0_part15 (F := F)) d0 v4 v7
    onBufs (k0_part16 (F := F)) d0 v2 v4
    onBufs (k0_part17 (F := F)) v4 v7
    onBufs (k0_part18 (F := F)) d0 v4 v7 v8
    let g : BitVec 32 ← onBufs (k0_part19 (F := F)) d0 v2 v4
    onBufs (k0_part20 (F := F)) d0 v4 v7 v8 g
    onBufs (k0_part21 (F := F)) d0 v2 v4 v7
    let ⟨i, j⟩ : Σ' (i : BitVec 32), BitVec 32 ← onBufs (k0_part22 (F := F)) d0 v2 v4 v7
    let _ : BitVec 32 ← onBufs (k0_part23 (F := F)) d0 v4 v7 i j
    lp27 d0
    lp28 d0
    semSignalWord (⟨k0_dev35 d0, k0_dev35_lt d0⟩ : Dev nD) v8.sem 1#32
    semSignalWord (⟨k0_dev36 d0, k0_dev36_lt d0⟩ : Dev nD) v8.sem 1#32
    semWaitWord v8.sem 2#32
    pure ⟨⟩ : PT F PUnit) = _
  rw [part1]
  simp only [bind_assoc, pure_bind]
  congr 1
  funext d
  obtain ⟨v, hv⟩ := h22 d (Scalar.remsi (Scalar.divsi (Dev.word d) 1#32) 4#32)
      (Scalar.remsi (Scalar.addi (Scalar.remsi (Scalar.divsi (Dev.word d) 1#32) 4#32) 1#32) 4#32)
      (Scalar.remsi (Scalar.subi (Scalar.addi (Scalar.remsi (Scalar.divsi (Dev.word d) 1#32) 4#32) 4#32) 1#32) 4#32)
  simp only [part2, part3, part4, part5 _ _ _ d, part6, part7, part8 _ _ _ d, part9 _ _ _ d, part10, part11, part12, part13 _ _ d, part14, part15, part16,
    part17 _ _ d, part18, part19, part20, part21, hv, part23, bind_assoc, pure_bind]
  simp only [seq1, seq2, seq3, seq4, seq5, seq6, seq7, seq8, seq9, seq10, seq11, seq12, seq13, seq14, seq15, seq16, seq17, seq18, seq19, seq20, seq21, seq22, seq23,
    ph0, ph1, ph2, ph3, ph4, ph5, ph6, xP, endP, bind_assoc, pure_bind]
  rfl

end Cert.Gemm

end

end
-- ==== Proof.Tiles.lean ====
/- The steps a device takes on its own: fetching and rounding rows, multiplying tiles, adding tiles, storing tiles. Each is
   stated as what it needs and what it leaves. -/
module

public import proofs.«01_k».proof.Proof.Parts
public import Idealize.ShloMosaic.Lib.Transfers

@[expose] public section

noncomputable section

namespace Cert.Gemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)

/-- What has to hold for `p` to run on device `c` and end in `Q`. -/
abbrev WP (c : Dev nD) {α : Type} (p : PT F α) (Q : α → sProp 𝕄) : sProp 𝕄 :=
  wp frame (wpE (defs₀ (F := F)) 𝒱₀ (c : Thread nD τ) none) Set.univ p Q

/-- A step at the head of a program. -/
theorem step {c : Dev nD} {α β : Type} {p : PT F α} {k : α → PT F β} {P R : sProp 𝕄} {Q : β → sProp 𝕄} (h : P ⊢ WP c p fun _ => R) :
    P ⊢ iprop((∀ a, R -∗ WP c (k a) Q) -∗ WP c (p >>= k) Q) := by
  unfold WP at h ⊢
  rw [wp_bind]
  iintro HP HK
  iapply (wp_wand_r frame _ _)
  isplitl [HP]
  · iapply h; iexact HP
  · iexact HK

theorem ret {c : Dev nD} {α : Type} {a : α} {Q : α → sProp 𝕄} : Q a ⊢ WP c (.ret a) Q := le_wp_ret frame _ _ a Q

/-! ## What a device has at hand -/

abbrev stPts (c : Dev nD) (f : Vec F S1024x1024 .f32) : sProp 𝕄 := ((c : Thread nD τ).loc cc0_scratch0) ↦{fullShare} f
abbrev xcPts (c : Dev nD) (f : Tile F) : sProp 𝕄 := ((c : Thread nD τ).loc cc0_scratch1) ↦{fullShare} f
abbrev wcPts (c : Dev nD) (f : Tile F) : sProp 𝕄 := ((c : Thread nD τ).loc cc0_scratch2) ↦{fullShare} f
abbrev xPts (c : Dev nD) : sProp 𝕄 := ((c : Thread nD τ).loc main_arg0) ↦{fullShare} (xbuf m c)
abbrev wPts (c : Dev nD) : sProp 𝕄 := ((c : Thread nD τ).loc main_arg1) ↦{fullShare} (wbuf m c)
abbrev loc0 (c : Dev nD) : sProp 𝕄 := semVal ((c : Thread nD τ), SemLoc.dma locS) 0

/-- Device `c` after `n` payments, with rows `X` in use: its operands, its tile buffers, and its own transfers' semaphore at rest. -/
def Wk (c : Dev nD) (n : ℕ) (X : Tile F) : sProp 𝕄 :=
  iprop(Pays c n ∗ (∃ f, stPts c f) ∗ (∃ f, wcPts c f) ∗ xcPts c X ∗ xPts m c ∗ wPts m c ∗ loc0 c)

theorem hz : (![0, 0] : Fin 2 → ℕ) = fun _ => 0 := funext fun a => by fin_cases a <;> rfl

theorem lev_pos (x : Pmt) : 0 < x.lev := by
  cases x
  · exact Nat.succ_pos _
  · exact Nat.succ_pos _

theorem lv_loc (c : Dev nD) (r : ℕ) : lv ((c : Thread nD τ), SemLoc.dma locS) r = 0 := by
  unfold lv; dsimp only; rw [cidOf_loc]

omit [FloatOps F] in
/-- A device may always wait for its own transfers. -/
theorem mayWaitLoc (c : Dev nD) (n : ℕ) : (levAts L lv : sProp 𝕄) ⊢ MayWait (c : Thread nD τ) (.dma locS) 0 (owed c (plan.drop n)) := by
  refine mayWait c (.dma locS) 0 n (Nat.succ_pos _) fun x _ => ?_
  rw [lv_loc]
  exact lev_pos x

/-! ## Loads and stores of tiles -/

section Access

theorem tile_set (j : Fin 8) {lo hi : ℕ} (h₁ : lo ≤ 1024 * j.val) (h₂ : 1024 * j.val + 1024 ≤ hi) : (tileR j).set ⊆ cols lo hi := by
  intro i hi'
  rw [Rect.mem_set_unit] at hi'
  have h : 1024 * j.val ≤ (i 1).val ∧ (i 1).val < 1024 * j.val + 1024 := hi' 1
  rw [mem_cols]; omega

/-- Loading tile `j`. -/
theorem load_tile {c : Dev nD} {α : Type} {Q : α → sProp 𝕄} (b : BufId) (j : Fin 8) {lo hi : ℕ} (h₁ : lo ≤ 1024 * j.val) (h₂ : 1024 * j.val + 1024 ≤ hi) {q} {f : Wide F}
    {hl : (bm b).view.LoadsAt (tileR j).toLoadRect} {k : Vec F S1024x1024 .bf16 → PT F α} :
    held b c lo hi q f ⊢ iprop((held b c lo hi q f -∗ WP c (k (tileOf f j)) Q) -∗ WP c (.op (.load (bm b) (tileR j).toLoadRect hl) k) Q) := by
  have hs : (tileR j).set ⊆ cols lo hi := tile_set j h₁ h₂
  cases b
  · exact wp_load_rect (m := Memref.whole cc0_scratch3) (r := tileR j) 𝒱₀ (c : Thread nD τ) none Set.univ (by rw [View.set_slice_whole]; exact hs)
  · exact wp_load_rect (m := Memref.whole cc0_scratch4) (r := tileR j) 𝒱₀ (c : Thread nD τ) none Set.univ (by rw [View.set_slice_whole]; exact hs)
  · exact wp_load_rect (m := Memref.whole cc0_scratch5) (r := tileR j) 𝒱₀ (c : Thread nD τ) none Set.univ (by rw [View.set_slice_whole]; exact hs)

/-- A buffer with tile `j` replaced. -/
def putTile (f : Wide F) (j : Fin 8) (w : Tile F) : Wide F := fun i => if tileIx i = j then w (inTile i) else f i

/-- A write through a rectangle of a whole buffer: on the rectangle, and off it. -/
theorem put_gen (r : Ref sig .tc) (R : Rect r.ty.shape) (f : r.ty.Contents (Elt F)) (w : R.shape.Idx → Elt F r.ty.elt) (i : r.ty.shape.Idx) :
    (∀ x, R.emb x = i → ((Memref.whole r).access R).write (Elt F) f w Finset.univ i = w x)
      ∧ (i ∉ R.set → ((Memref.whole r).access R).write (Elt F) f w Finset.univ i = f i) := by
  refine ⟨fun x hx => ?_, fun h => ?_⟩
  · subst hx
    exact View.write_emb_of_mem (Val := Elt F) (v := ((Memref.whole r).access R)) f w (M := Finset.univ) (x := x) (Finset.mem_univ _)
  · refine View.write_of_not_mem (Val := Elt F) (v := ((Memref.whole r).access R)) f w Finset.univ ?_
    rw [View.setOn_univ, View.set_slice_whole]
    exact h

theorem put_of {W f : Wide F} {j : Fin 8} {w : Tile F} (h : ∀ i, (∀ x, (tileR j).emb x = i → W i = w x) ∧ (i ∉ (tileR j).set → W i = f i)) : W = putTile f j w := by
  funext i
  unfold putTile
  by_cases hij : tileIx i = j
  · rw [if_pos hij]
    subst hij
    exact (h i).1 _ (emb_inTile i)
  · rw [if_neg hij]
    refine (h i).2 fun hi => hij ?_
    rw [Rect.mem_set_unit] at hi
    have h' : 1024 * j.val ≤ (i 1).val ∧ (i 1).val < 1024 * j.val + 1024 := hi 1
    apply Fin.ext; simp only [tileIx]; omega

/-- Storing tile `j`. -/
theorem store_tile {c : Dev nD} {α : Type} {Q : α → sProp 𝕄} (b : BufId) (j : Fin 8) {lo hi : ℕ} (h₁ : lo ≤ 1024 * j.val) (h₂ : 1024 * j.val + 1024 ≤ hi)
    {f : Wide F} {w : Tile F} {hx : ((bm b).access (tileR j)).Stores Finset.univ} {hm} {k : PUnit → PT F α} :
    held b c lo hi fullShare f ⊢ iprop((held b c lo hi fullShare (putTile f j w) -∗ WP c (k ⟨⟩) Q)
      -∗ WP c (.op (.store (bm b) (tileR j) w Finset.univ hx hm) k) Q) := by
  have hs : (tileR j).set ⊆ cols lo hi := tile_set j h₁ h₂
  cases b
  · rw [← put_of (put_gen cc0_scratch3 (tileR j) f w)]
    exact wp_store (m := Memref.whole cc0_scratch3) (r := tileR j) (w := w) (f := f) (S := cols lo hi) (k := k) 𝒱₀ (c : Thread nD τ) none Set.univ (by rw [View.setOn_univ, View.set_slice_whole]; exact hs)
  · rw [← put_of (put_gen cc0_scratch4 (tileR j) f w)]
    exact wp_store (m := Memref.whole cc0_scratch4) (r := tileR j) (w := w) (f := f) (S := cols lo hi) (k := k) 𝒱₀ (c : Thread nD τ) none Set.univ (by rw [View.setOn_univ, View.set_slice_whole]; exact hs)
  · rw [← put_of (put_gen cc0_scratch5 (tileR j) f w)]
    exact wp_store (m := Memref.whole cc0_scratch5) (r := tileR j) (w := w) (f := f) (S := cols lo hi) (k := k) 𝒱₀ (c : Thread nD τ) none Set.univ (by rw [View.setOn_univ, View.set_slice_whole]; exact hs)

/-! The tile buffers, loaded and stored whole. -/

theorem load_st {c : Dev nD} {α : Type} {Q : α → sProp 𝕄} {f : Vec F S1024x1024 .f32} {hl : stM.view.LoadsAt allR.toLoadRect}
    {k : Vec F S1024x1024 .f32 → PT F α} :
    stPts c f ⊢ iprop((stPts c f -∗ WP c (k f) Q) -∗ WP c (.op (.load stM allR.toLoadRect hl) k) Q) := by
  have e : stM.view.readAt (Elt F) allR.toLoadRect f = f := Memref.readAt_unit_zero (Elt F) cc0_scratch0 hz _ f
  rw [show WP c (k f) Q = WP c (k (stM.view.readAt (Elt F) allR.toLoadRect f)) Q by rw [e]]
  exact wp_load (m := stM) (r := allR.toLoadRect) (S := Finset.univ) (f := f) (k := k) 𝒱₀ (c : Thread nD τ) none Set.univ (Finset.subset_univ _)
theorem store_st {c : Dev nD} {α : Type} {Q : α → sProp 𝕄} {f w : Vec F S1024x1024 .f32} {hx : (stM.access allR).Stores Finset.univ} {hm}
    {k : PUnit → PT F α} :
    stPts c f ⊢ iprop((stPts c w -∗ WP c (k ⟨⟩) Q) -∗ WP c (.op (.store stM allR w Finset.univ hx hm) k) Q) := by
  have e : (stM.access allR).write (Elt F) f w Finset.univ = w := Memref.write_access_unit_zero_univ (Elt F) cc0_scratch0 hz _ f w
  rw [show stPts c w = stPts c ((stM.access allR).write (Elt F) f w Finset.univ) by rw [e]]
  exact wp_store (m := stM) (r := allR) (w := w) (f := f) (S := Finset.univ) (k := k) 𝒱₀ (c : Thread nD τ) none Set.univ (Finset.subset_univ _)

theorem load_xc {c : Dev nD} {α : Type} {Q : α → sProp 𝕄} {f : Vec F S1024x1024 .bf16} {hl : xcM.view.LoadsAt allR.toLoadRect}
    {k : Vec F S1024x1024 .bf16 → PT F α} :
    xcPts c f ⊢ iprop((xcPts c f -∗ WP c (k f) Q) -∗ WP c (.op (.load xcM allR.toLoadRect hl) k) Q) := by
  have e : xcM.view.readAt (Elt F) allR.toLoadRect f = f := Memref.readAt_unit_zero (Elt F) cc0_scratch1 hz _ f
  rw [show WP c (k f) Q = WP c (k (xcM.view.readAt (Elt F) allR.toLoadRect f)) Q by rw [e]]
  exact wp_load (m := xcM) (r := allR.toLoadRect) (S := Finset.univ) (f := f) (k := k) 𝒱₀ (c : Thread nD τ) none Set.univ (Finset.subset_univ _)
theorem store_xc {c : Dev nD} {α : Type} {Q : α → sProp 𝕄} {f w : Vec F S1024x1024 .bf16} {hx : (xcM.access allR).Stores Finset.univ} {hm}
    {k : PUnit → PT F α} :
    xcPts c f ⊢ iprop((xcPts c w -∗ WP c (k ⟨⟩) Q) -∗ WP c (.op (.store xcM allR w Finset.univ hx hm) k) Q) := by
  have e : (xcM.access allR).write (Elt F) f w Finset.univ = w := Memref.write_access_unit_zero_univ (Elt F) cc0_scratch1 hz _ f w
  rw [show xcPts c w = xcPts c ((xcM.access allR).write (Elt F) f w Finset.univ) by rw [e]]
  exact wp_store (m := xcM) (r := allR) (w := w) (f := f) (S := Finset.univ) (k := k) 𝒱₀ (c : Thread nD τ) none Set.univ (Finset.subset_univ _)

theorem load_wc {c : Dev nD} {α : Type} {Q : α → sProp 𝕄} {f : Vec F S1024x1024 .bf16} {hl : wcM.view.LoadsAt allR.toLoadRect}
    {k : Vec F S1024x1024 .bf16 → PT F α} :
    wcPts c f ⊢ iprop((wcPts c f -∗ WP c (k f) Q) -∗ WP c (.op (.load wcM allR.toLoadRect hl) k) Q) := by
  have e : wcM.view.readAt (Elt F) allR.toLoadRect f = f := Memref.readAt_unit_zero (Elt F) cc0_scratch2 hz _ f
  rw [show WP c (k f) Q = WP c (k (wcM.view.readAt (Elt F) allR.toLoadRect f)) Q by rw [e]]
  exact wp_load (m := wcM) (r := allR.toLoadRect) (S := Finset.univ) (f := f) (k := k) 𝒱₀ (c : Thread nD τ) none Set.univ (Finset.subset_univ _)
theorem store_wc {c : Dev nD} {α : Type} {Q : α → sProp 𝕄} {f w : Vec F S1024x1024 .bf16} {hx : (wcM.access allR).Stores Finset.univ} {hm}
    {k : PUnit → PT F α} :
    wcPts c f ⊢ iprop((wcPts c w -∗ WP c (k ⟨⟩) Q) -∗ WP c (.op (.store wcM allR w Finset.univ hx hm) k) Q) := by
  have e : (wcM.access allR).write (Elt F) f w Finset.univ = w := Memref.write_access_unit_zero_univ (Elt F) cc0_scratch2 hz _ f w
  rw [show wcPts c w = wcPts c ((wcM.access allR).write (Elt F) f w Finset.univ) by rw [e]]
  exact wp_store (m := wcM) (r := allR) (w := w) (f := f) (S := Finset.univ) (k := k) 𝒱₀ (c : Thread nD τ) none Set.univ (Finset.subset_univ _)

/-! Fetching a tile, and storing one, by the device's own transfers. -/

/-- The rows or columns of a buffer of the device's that a rectangle covers. -/
abbrev cutM {s : Shape} {e : EltTy} (M : Memref sig .tc .hbm s e) (o : Fin s.rank → ℕ) (z : Fin s.rank → ℕ) (h : ∀ a, o a + z a ≤ s.size a) :=
  M.slice (Rect.unit (s := s) o z h) (fun _ => rfl)

theorem fetch_x {c : Dev nD} {α : Type} {Q : α → sProp 𝕄} {o : Fin 2 → ℕ} {h : ∀ a, o a + S1024x1024.size a ≤ S4096x1024.size a} (n : ℕ) (W : Waits sig ℕ)
    {f : Vec F S1024x1024 .f32} {h₁ h₂ h₃ h₄ h₅} {k : PUnit → PT F α} :
    iprop(xPts m c ∗ stPts c f ∗ loc0 c ∗ levAts L lv ∗ owes (c : Thread nD τ) (owed c (plan.drop n)) W)
      ⊢ iprop(((xPts m c ∗ stPts c (fun i => xbuf m c ((Rect.unit (s := S4096x1024) o S1024x1024.size h).emb i)) ∗ loc0 c
            ∗ owes (c : Thread nD τ) (owed c (plan.drop n)) (insert (SemLoc.dma locS, 0) W)) -∗ WP c (k ⟨⟩) Q)
        -∗ WP c (.op (.enqueueDma (cutM xM o S1024x1024.size h) (.here stM) (.dma locS) h₁ h₂ h₃)
            fun _ => .op (.waitDma2 locS (cutM xM o S1024x1024.size h) stM h₄ h₅) k) Q) := by
  have hsub : (cutM xM o S1024x1024.size h).view.set ⊆ (Finset.univ : Finset (Idx ((cutM xM o S1024x1024.size h).view.loc (c : Thread nD τ)))) := Finset.subset_univ _
  iintro ⟨Hx, Hs, Hl, #Hlev, HO⟩ HK
  ihave Hx := (pointsTo_split_subset (ℓ := (c : Thread nD τ).loc main_arg0) (f := xbuf m c) (q := fullShare) hsub).1 $$ Hx
  icases Hx with ⟨Hx1, Hx2⟩
  iapply (wp_dmaLocal EC 𝒱₀ (c : Thread nD τ) none (src := cutM xM o S1024x1024.size h) (dst := stM) (fs := xbuf m c) (q := fullShare) (fd := f) (Sd := Finset.univ)
    0 (stM.view.dmaCredit) rfl (View.dmaCredit_pos _ (by decide)) (Finset.subset_univ _)) $$ [Hx1 Hs Hl]
  · isplitl [Hx1]; · iexact Hx1
    isplitl [Hs]; · iexact Hs
    iexact Hl
  iintro Hf
  iapply (wp_waitLocalO EC 𝒱₀ (c : Thread nD τ) none 0 rfl) $$ [Hf HO]
  · isplitl [Hf]; · iexact Hf
    isplitl [HO]; · iexact HO
    iapply (mayWaitLoc c n); iexact Hlev
  iintro ⟨⟨Hs, Hx1⟩, Hl, HO⟩
  iapply HK
  isplitl [Hx1 Hx2]
  · iapply (pointsTo_split_subset (ℓ := (c : Thread nD τ).loc main_arg0) (f := xbuf m c) (q := fullShare) hsub).2
    isplitl [Hx1] <;> iassumption
  isplitl [Hs]
  · rw [show (stM.view.write (Elt F) f ((ReadAs.same : ReadAs (Elt F) _ _ _ _).apply ((cutM xM o S1024x1024.size h).view.read (Elt F) (xbuf m c))) Finset.univ)
      = (fun i => xbuf m c ((Rect.unit (s := S4096x1024) o S1024x1024.size h).emb i)) from View.write_whole_univ cc0_scratch0 f _]
    iexact Hs
  isplitl [Hl] <;> iassumption

theorem fetch_w {c : Dev nD} {α : Type} {Q : α → sProp 𝕄} {o : Fin 2 → ℕ} {h : ∀ a, o a + S1024x1024.size a ≤ S1024x8192.size a} (n : ℕ) (W : Waits sig ℕ)
    {f : Vec F S1024x1024 .f32} {h₁ h₂ h₃ h₄ h₅} {k : PUnit → PT F α} :
    iprop(wPts m c ∗ stPts c f ∗ loc0 c ∗ levAts L lv ∗ owes (c : Thread nD τ) (owed c (plan.drop n)) W)
      ⊢ iprop(((wPts m c ∗ stPts c (fun i => wbuf m c ((Rect.unit (s := S1024x8192) o S1024x1024.size h).emb i)) ∗ loc0 c
            ∗ owes (c : Thread nD τ) (owed c (plan.drop n)) (insert (SemLoc.dma locS, 0) W)) -∗ WP c (k ⟨⟩) Q)
        -∗ WP c (.op (.enqueueDma (cutM wM o S1024x1024.size h) (.here stM) (.dma locS) h₁ h₂ h₃)
            fun _ => .op (.waitDma2 locS (cutM wM o S1024x1024.size h) stM h₄ h₅) k) Q) := by
  have hsub : (cutM wM o S1024x1024.size h).view.set ⊆ (Finset.univ : Finset (Idx ((cutM wM o S1024x1024.size h).view.loc (c : Thread nD τ)))) := Finset.subset_univ _
  iintro ⟨Hx, Hs, Hl, #Hlev, HO⟩ HK
  ihave Hx := (pointsTo_split_subset (ℓ := (c : Thread nD τ).loc main_arg1) (f := wbuf m c) (q := fullShare) hsub).1 $$ Hx
  icases Hx with ⟨Hx1, Hx2⟩
  iapply (wp_dmaLocal EC 𝒱₀ (c : Thread nD τ) none (src := cutM wM o S1024x1024.size h) (dst := stM) (fs := wbuf m c) (q := fullShare) (fd := f) (Sd := Finset.univ)
    0 (stM.view.dmaCredit) rfl (View.dmaCredit_pos _ (by decide)) (Finset.subset_univ _)) $$ [Hx1 Hs Hl]
  · isplitl [Hx1]; · iexact Hx1
    isplitl [Hs]; · iexact Hs
    iexact Hl
  iintro Hf
  iapply (wp_waitLocalO EC 𝒱₀ (c : Thread nD τ) none 0 rfl) $$ [Hf HO]
  · isplitl [Hf]; · iexact Hf
    isplitl [HO]; · iexact HO
    iapply (mayWaitLoc c n); iexact Hlev
  iintro ⟨⟨Hs, Hx1⟩, Hl, HO⟩
  iapply HK
  isplitl [Hx1 Hx2]
  · iapply (pointsTo_split_subset (ℓ := (c : Thread nD τ).loc main_arg1) (f := wbuf m c) (q := fullShare) hsub).2
    isplitl [Hx1] <;> iassumption
  isplitl [Hs]
  · rw [show (stM.view.write (Elt F) f ((ReadAs.same : ReadAs (Elt F) _ _ _ _).apply ((cutM wM o S1024x1024.size h).view.read (Elt F) (wbuf m c))) Finset.univ)
      = (fun i => wbuf m c ((Rect.unit (s := S1024x8192) o S1024x1024.size h).emb i)) from View.write_whole_univ cc0_scratch0 f _]
    iexact Hs
  isplitl [Hl] <;> iassumption

/-- Device `c`'s result, whole. -/
abbrev oPts (c : Dev nD) (f : S4096x8192.Idx → Elt F .f32) : sProp 𝕄 := ((c : Thread nD τ).loc main_v1) ↦{fullShare} f

theorem store_o {c : Dev nD} {α : Type} {Q : α → sProp 𝕄} {o : Fin 2 → ℕ} {h : ∀ a, o a + S1024x1024.size a ≤ S4096x8192.size a} (n : ℕ) (W : Waits sig ℕ)
    {f : Vec F S1024x1024 .f32} {g : S4096x8192.Idx → Elt F .f32} {h₁ h₂ h₃ h₄ h₅} {k : PUnit → PT F α} :
    iprop(oPts c g ∗ stPts c f ∗ loc0 c ∗ levAts L lv ∗ owes (c : Thread nD τ) (owed c (plan.drop n)) W)
      ⊢ iprop(((oPts c ((oM.access (Rect.unit (s := S4096x8192) o S1024x1024.size h)).write (Elt F) g f Finset.univ) ∗ stPts c f ∗ loc0 c
            ∗ owes (c : Thread nD τ) (owed c (plan.drop n)) (insert (SemLoc.dma locS, 0) W)) -∗ WP c (k ⟨⟩) Q)
        -∗ WP c (.op (.enqueueDma stM (.here (cutM oM o S1024x1024.size h)) (.dma locS) h₁ h₂ h₃)
            fun _ => .op (.waitDma2 locS stM (cutM oM o S1024x1024.size h) h₄ h₅) k) Q) := by
  iintro ⟨Ho, Hs, Hl, #Hlev, HO⟩ HK
  iapply (wp_dmaLocal EC 𝒱₀ (c : Thread nD τ) none (src := stM) (dst := cutM oM o S1024x1024.size h) (fs := f) (q := fullShare) (fd := g) (Sd := Finset.univ)
    0 ((cutM oM o S1024x1024.size h).view.dmaCredit) rfl (View.dmaCredit_pos _ (show 0 < S1024x1024.numel by decide)) (Finset.subset_univ _)) $$ [Ho Hs Hl]
  · isplitl [Hs]
    · rw [show stM.view.set = Finset.univ from View.set_whole cc0_scratch0]; iexact Hs
    isplitl [Ho]; · iexact Ho
    iexact Hl
  iintro Hf
  iapply (wp_waitLocalO EC 𝒱₀ (c : Thread nD τ) none 0 rfl) $$ [Hf HO]
  · isplitl [Hf]; · iexact Hf
    isplitl [HO]; · iexact HO
    iapply (mayWaitLoc c n); iexact Hlev
  iintro ⟨⟨Ho, Hs⟩, Hl, HO⟩
  iapply HK
  isplitl [Ho]; · iexact Ho
  isplitl [Hs]
  · rw [show stM.view.set = Finset.univ from View.set_whole cc0_scratch0]; iexact Hs
  isplitl [Hl] <;> iassumption

end Access

/-! ## The steps -/

/-- Fetching and rounding the `ch`-th rows. -/
theorem x_spec {c ch : Dev nD} {n : ℕ} {X : Tile F} {o : Fin 2 → ℕ} {h} (ho : o = ![1024 * ch.val, 0]) :
    iprop(levAts L lv ∗ Wk m c n X) ⊢ WP c (xP o h) fun _ => Wk m c n (k0_pay3 (xblk m c ch)) := by
  subst ho
  unfold Wk Pays xP xFetchP xRoundP
  simp only [Prog.lift, Prog.bind_op, Prog.bind_ret, Prog.pure_eq_ret]
  iintro ⟨#Hlev, ⟨⟨%W, HO⟩, Htok⟩, ⟨%f, Hs⟩, Hw, Hxc, Hx, HW, Hl⟩
  iapply (fetch_x m n W) $$ [Hx Hs Hl HO]
  · isplitl [Hx]; · iexact Hx
    isplitl [Hs]; · iexact Hs
    isplitl [Hl]; · iexact Hl
    isplitr; · iexact Hlev
    iexact HO
  iintro ⟨Hx, Hs, Hl, HO⟩
  iapply load_st $$ Hs; iintro Hs
  iapply load_xc $$ Hxc; iintro Hxc
  iapply store_xc $$ Hxc; iintro Hxc
  iapply ret
  isplitl [HO Htok]
  · isplitl [HO]; · iexists _; iexact HO
    iexact Htok
  isplitl [Hs]; · iexists _; iexact Hs
  isplitl [Hw]; · iexact Hw
  isplitl [Hxc]; · iexact Hxc
  isplitl [Hx]; · iexact Hx
  isplitl [HW] <;> iassumption

/-- One tile of a product. -/
theorem mul_spec {c ch : Dev nD} {n : ℕ} (b : BufId) (j : Fin 8) {lo hi : ℕ} (h₁ : lo ≤ 1024 * j.val) (h₂ : 1024 * j.val + 1024 ≤ hi) {f : Wide F}
    {ow ob : Fin 2 → ℕ} {hw hb hp} (how : ow = ![0, 1024 * j.val]) (hob : ob = ![0, 1024 * j.val]) :
    iprop(levAts L lv ∗ Wk m c n (k0_pay3 (xblk m c ch)) ∗ held b c lo hi fullShare f)
      ⊢ WP c (mulP b ow hw ob hb hp) fun _ => iprop(Wk m c n (k0_pay3 (xblk m c ch)) ∗ held b c lo hi fullShare (putTile f j (tileOf (part m c ch) j))) := by
  subst how hob
  rw [show tileOf (part m c ch) j = k0_pay5 (k0_pay3 (xblk m c ch)) (k0_pay4 (tileOf (wbuf m c) j)) from tileOf_byTile _ j]
  unfold Wk Pays mulP
  simp only [Prog.lift, Prog.bind_op, Prog.bind_ret, Prog.pure_eq_ret]
  iintro ⟨#Hlev, ⟨⟨⟨%W, HO⟩, Htok⟩, ⟨%g, Hs⟩, ⟨%g', Hw⟩, Hxc, Hx, HW, Hl⟩, Hb⟩
  iapply (fetch_w m n W) $$ [HW Hs Hl HO]
  · isplitl [HW]; · iexact HW
    isplitl [Hs]; · iexact Hs
    isplitl [Hl]; · iexact Hl
    isplitr; · iexact Hlev
    iexact HO
  iintro ⟨HW, Hs, Hl, HO⟩
  iapply load_st $$ Hs; iintro Hs
  iapply load_wc $$ Hw; iintro Hw
  iapply store_wc $$ Hw; iintro Hw
  iapply load_xc $$ Hxc; iintro Hxc
  iapply load_wc $$ Hw; iintro Hw
  iapply (load_tile b j h₁ h₂) $$ Hb; iintro Hb
  iapply (store_tile b j h₁ h₂) $$ Hb; iintro Hb
  iapply ret
  isplitr [Hb]
  · isplitl [HO Htok]
    · isplitl [HO]; · iexists _; iexact HO
      iexact Htok
    isplitl [Hs]; · iexists _; iexact Hs
    isplitl [Hw]; · iexists _; iexact Hw
    isplitl [Hxc]; · iexact Hxc
    isplitl [Hx]; · iexact Hx
    isplitl [HW] <;> iassumption
  · iexact Hb

/-- One tile added, by `p`, to another. -/
theorem add_spec {c : Dev nD} (p : Tile F → Tile F → Tile F) (b : BufId) (j : Fin 8) {lo hi : ℕ} (h₁ : lo ≤ 1024 * j.val) (h₂ : 1024 * j.val + 1024 ≤ hi) {f g : Wide F}
    {ob : Fin 2 → ℕ} {hb hp} (hob : ob = ![0, 1024 * j.val]) :
    iprop(held b c lo hi fullShare f ∗ held .P c 0 8192 fullShare g)
      ⊢ WP c (addP p b ob hb hp) fun _ => iprop(held b c lo hi fullShare (putTile f j (p (tileOf f j) (tileOf g j))) ∗ held .P c 0 8192 fullShare g) := by
  subst hob
  unfold addP
  simp only [Prog.lift, Prog.bind_op, Prog.bind_ret, Prog.pure_eq_ret]
  iintro ⟨Hb, HP⟩
  iapply (load_tile b j h₁ h₂) $$ Hb; iintro Hb
  iapply (load_tile .P j (Nat.zero_le _) (by have := j.isLt; omega)) $$ HP; iintro HP
  iapply (load_tile b j h₁ h₂) $$ Hb; iintro Hb
  iapply (store_tile b j h₁ h₂) $$ Hb; iintro Hb
  iapply ret
  isplitl [Hb] <;> iassumption

/-! ## The result -/

/-- Row chunk `ch` of the result, before it is widened. -/
def fin (ch : Dev nD) : Wide F := half (sumR m ch 3) (sumL m ch 3)

theorem row_lt (i : S4096x8192.Idx) : (i 0).val < 4096 := (i 0).isLt
theorem ocol_lt (i : S4096x8192.Idx) : (i 1).val < 8192 := (i 1).isLt

/-- The row chunk a position of the result is in, -/
def rowCh (i : S4096x8192.Idx) : Dev nD := (⟨(i 0).val / 1024, by have := row_lt i; omega⟩ : Fin 4)
/-- its tile, -/
def colT (i : S4096x8192.Idx) : Fin 8 := ⟨(i 1).val / 1024, by have := ocol_lt i; omega⟩
/-- and its place there. -/
def inBlk (i : S4096x8192.Idx) : S1024x1024.Idx := fun a => match a with
  | ⟨0, _⟩ => (⟨(i 0).val % 1024, Nat.mod_lt _ (by decide)⟩ : Fin 1024)
  | ⟨1, _⟩ => (⟨(i 1).val % 1024, Nat.mod_lt _ (by decide)⟩ : Fin 1024)

/-- The kernel's result, the same on every device. -/
def res : Vec F S4096x8192 .f32 := fun i => k0_pay1 (tileOf (fin m (rowCh i)) (colT i)) (inBlk i)

/-- Device `c`'s result buffer, right on the blocks in `D`. -/
def outs (c : Dev nD) (D : Dev nD → ℕ → Prop) : sProp 𝕄 :=
  iprop(∃ f : S4096x8192.Idx → Elt F .f32, ⌜∀ i, D (rowCh i) (colT i).val → f i = res m i⌝ ∗ oPts c f)

/-- The blocks in `D` and the `k` blocks of chunk `ch` from tile `a`. -/
def more (D : Dev nD → ℕ → Prop) (ch : Dev nD) (a k : ℕ) : Dev nD → ℕ → Prop := fun ch' j => D ch' j ∨ (ch' = ch ∧ a ≤ j ∧ j < a + k)

theorem blk_inb (ch : Dev nD) (j : Fin 8) : ∀ a, (![1024 * ch.val, 1024 * j.val] : Fin 2 → ℕ) a + S1024x1024.size a ≤ S4096x8192.size a := by
  intro a
  have h : ch.val < 4 := ch.isLt
  have h' := j.isLt
  fin_cases a
  · show 1024 * ch.val + 1024 ≤ 4096; omega
  · show 1024 * j.val + 1024 ≤ 8192; omega
abbrev blkR (ch : Dev nD) (j : Fin 8) : Rect S4096x8192 := Rect.unit (s := S4096x8192) ![1024 * ch.val, 1024 * j.val] S1024x1024.size (blk_inb ch j)

theorem blk_emb (i : S4096x8192.Idx) : (blkR (rowCh i) (colT i)).emb (inBlk i) = i := by
  funext a
  apply Fin.ext
  rw [Rect.emb_apply]
  fin_cases a
  · show 1024 * ((i 0).val / 1024) + 1 * ((i 0).val % 1024) = (i 0).val; omega
  · show 1024 * ((i 1).val / 1024) + 1 * ((i 1).val % 1024) = (i 1).val; omega

/-- Storing one block of the result. -/
theorem out_spec {c ch : Dev nD} {n : ℕ} {X : Tile F} (b : BufId) (j : Fin 8) {lo hi : ℕ} (h₁ : lo ≤ 1024 * j.val) (h₂ : 1024 * j.val + 1024 ≤ hi) {q} {f : Wide F}
    (hf : tileOf f j = tileOf (fin m ch) j) {D D' : Dev nD → ℕ → Prop} (hD : ∀ ch' j', D' ch' j' → D ch' j' ∨ (ch' = ch ∧ j' = j.val))
    {ob oo : Fin 2 → ℕ} {hb ho} (hob : ob = ![0, 1024 * j.val]) (hoo : oo = ![1024 * ch.val, 1024 * j.val]) :
    iprop(levAts L lv ∗ Wk m c n X ∗ held b c lo hi q f ∗ outs m c D)
      ⊢ WP c (outP b ob hb oo ho) fun _ => iprop(Wk m c n X ∗ held b c lo hi q f ∗ outs m c D') := by
  subst hob hoo
  unfold Wk Pays outP outs
  simp only [Prog.lift, Prog.bind_op, Prog.bind_ret, Prog.pure_eq_ret]
  iintro ⟨#Hlev, ⟨⟨⟨%W, HO⟩, Htok⟩, ⟨%g, Hs⟩, Hw, Hxc, Hx, HW, Hl⟩, Hb, ⟨%r, %hr, Ho⟩⟩
  iapply (load_tile b j h₁ h₂) $$ Hb; iintro Hb
  iapply load_st $$ Hs; iintro Hs
  iapply store_st $$ Hs; iintro Hs
  iapply (store_o n W) $$ [Ho Hs Hl HO]
  · isplitl [Ho]; · iexact Ho
    isplitl [Hs]; · iexact Hs
    isplitl [Hl]; · iexact Hl
    isplitr; · iexact Hlev
    iexact HO
  iintro ⟨Ho, Hs, Hl, HO⟩
  iapply ret
  isplitr [Ho Hb]
  · isplitl [HO Htok]
    · isplitl [HO]; · iexists _; iexact HO
      iexact Htok
    isplitl [Hs]; · iexists _; iexact Hs
    isplitl [Hw]; · iexact Hw
    isplitl [Hxc]; · iexact Hxc
    isplitl [Hx]; · iexact Hx
    isplitl [HW] <;> iassumption
  isplitl [Hb]; · iexact Hb
  iexists _
  isplitr
  rotate_left
  · iexact Ho
  ipureintro
  intro i hi
  obtain ⟨w₁, w₂⟩ := put_gen main_v1 (blkR ch j) r (k0_pay1 (tileOf f j)) i
  by_cases hij : rowCh i = ch ∧ colT i = j
  · obtain ⟨rfl, rfl⟩ := hij
    rw [w₁ _ (blk_emb i), hf]
    rfl
  · have hne : i ∉ (blkR ch j).set := by
      intro hi'
      rw [Rect.mem_set_unit] at hi'
      have e0 : 1024 * ch.val ≤ (i 0).val ∧ (i 0).val < 1024 * ch.val + 1024 := hi' 0
      have e1 : 1024 * j.val ≤ (i 1).val ∧ (i 1).val < 1024 * j.val + 1024 := hi' 1
      refine hij ⟨Fin.ext ?_, Fin.ext ?_⟩
      · show (i 0).val / 1024 = ch.val; omega
      · show (i 1).val / 1024 = j.val; omega
    rw [w₂ hne]
    rcases hD _ _ hi with h | ⟨h, h'⟩
    · exact hr i h
    · exact absurd ⟨h, Fin.ext h'⟩ hij

end Cert.Gemm

end

end
-- ==== Proof.Loops.lean ====
/- The loops over tiles: each replaces the tiles it goes over by those of one buffer. -/
module

public import proofs.«01_k».proof.Proof.Tiles
public import Idealize.ShloMosaic.Lib.Scf

@[expose] public section

noncomputable section

namespace Cert.Gemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)

/-- A counted loop that carries nothing, by what holds before each trip. -/
theorem loop {c : Dev nD} {l : Scf.Loop 32} {ok : l.OK} {body : Fin l.trips → PT F Unit} (I : ℕ → sProp 𝕄) {n : ℕ} (hn : l.trips = n)
    (h : ∀ k, I k.val ⊢ WP c (body k) fun _ => I (k.val + 1)) : I 0 ⊢ WP c (Scf.Loop.for l ok ⟨⟩ fun k _ => body k) fun _ => I n := by
  subst hn
  iintro H
  iapply (Scf.wp_for frame (wpE (defs₀ (F := F)) 𝒱₀ (c : Thread nD τ) none) Set.univ l.lb l.ub l.st ok PUnit.unit (fun k _ => body k) (fun k _ => I k) (fun k _ => h k))
  isplitl [H]; · iexact H
  iintro %a H; iexact H

/-- Buffer `f` with the `n` tiles from `a` on replaced by those of `V`. -/
def fill {α : Type} (f V : S1024x8192.Idx → α) (a n : ℕ) : S1024x8192.Idx → α := fun i => if 1024 * a ≤ (i 1).val ∧ (i 1).val < 1024 * (a + n) then V i else f i

theorem fill_zero {α : Type} (f V : S1024x8192.Idx → α) (a : ℕ) : fill f V a 0 = f := by
  funext i; unfold fill; rw [if_neg (by omega)]

theorem tileOf_fill {α : Type} (f V : S1024x8192.Idx → α) {a n : ℕ} {j : Fin 8} (hj : a + n ≤ j.val) : tileOf (fill f V a n) j = tileOf f j := by
  funext i
  unfold tileOf fill
  have e : 1024 * j.val ≤ (((tileR j).emb i) 1).val := by rw [Rect.emb_apply]; exact Nat.le_add_right _ _
  rw [if_neg (by omega)]

theorem fill_succ (f V : Wide F) {a k : ℕ} {j : Fin 8} (hj : j.val = a + k) : putTile (fill f V a k) j (tileOf V j) = fill f V a (k + 1) := by
  funext i
  unfold putTile fill
  by_cases h : tileIx i = j
  · rw [if_pos h]
    have h' : (i 1).val / 1024 = j.val := congrArg Fin.val h
    rw [if_pos (by omega)]
    subst h
    exact congrArg V (emb_inTile i)
  · have h' : (i 1).val / 1024 ≠ j.val := fun e => h (Fin.ext e)
    rw [if_neg h]
    by_cases hc : 1024 * a ≤ (i 1).val ∧ (i 1).val < 1024 * (a + k)
    · rw [if_pos hc, if_pos (by omega)]
    · rw [if_neg hc, if_neg (by omega)]

omit [FloatOps F] in
/-- A piece all of whose tiles are replaced. -/
theorem held_fill {b : BufId} {c : Dev nD} {lo hi a n : ℕ} {q} {f V : Wide F} (h₁ : 1024 * a ≤ lo) (h₂ : hi ≤ 1024 * (a + n)) :
    (held b c lo hi q (fill f V a n) : sProp 𝕄) = held b c lo hi q V :=
  held_congr fun i h h' => by unfold fill; rw [if_pos (by omega)]

/-- A loop of products. -/
theorem mulL_spec {c ch : Dev nD} {N : ℕ} (b : BufId) {l : Scf.Loop 32} {ok : l.OK} {ow ob : Fin l.trips → Fin 2 → ℕ} {hw hb hp} {lo hi a n : ℕ} {f : Wide F}
    (hn : l.trips = n) (h₁ : lo ≤ 1024 * a) (h₂ : 1024 * (a + n) ≤ hi) (h₃ : a + n ≤ 8)
    (how : ∀ k, ow k = ![0, 1024 * (a + k.val)]) (hob : ∀ k, ob k = ![0, 1024 * (a + k.val)]) :
    iprop(levAts L lv ∗ Wk m c N (k0_pay3 (xblk m c ch)) ∗ held b c lo hi fullShare f)
      ⊢ WP c (mulL b l ok ow ob hw hb hp) fun _ => iprop(Wk m c N (k0_pay3 (xblk m c ch)) ∗ held b c lo hi fullShare (fill f (part m c ch) a n)) := by
  iintro ⟨#Hlev, Hw, Hb⟩
  iapply (wp_wand_r frame _ _)
  isplitl
  · iapply (loop (fun k => iprop(levAts L lv ∗ Wk m c N (k0_pay3 (xblk m c ch)) ∗ held b c lo hi fullShare (fill f (part m c ch) a k))) hn fun k => ?_)
    rotate_left
    · rw [fill_zero]
      isplitr; · iexact Hlev
      isplitl [Hw] <;> iassumption
    · have hk := k.isLt
      iintro ⟨#Hlev, Hw, Hb⟩
      rw [← fill_succ f (part m c ch) (j := (⟨a + k.val, by omega⟩ : Fin 8)) rfl]
      iapply (wp_wand_r frame _ _)
      isplitl
      · iapply (mul_spec m b (⟨a + k.val, by omega⟩ : Fin 8) (lo := lo) (hi := hi) (by show lo ≤ 1024 * (a + k.val); omega) (by show 1024 * (a + k.val) + 1024 ≤ hi; omega) (how k) (hob k))
        isplitr; · iexact Hlev
        isplitl [Hw] <;> iassumption
      · iintro %_ H
        isplitr; · iexact Hlev
        iexact H
  · iintro %_ ⟨_, H⟩; iexact H

/-- A loop of additions, by `p`: `V` has the sums. -/
theorem addL_spec {c : Dev nD} (p : Tile F → Tile F → Tile F) (b : BufId) {l : Scf.Loop 32} {ok : l.OK} {ob : Fin l.trips → Fin 2 → ℕ} {hb hp} {lo hi a n : ℕ} {f g V : Wide F}
    (hV : ∀ j, tileOf V j = p (tileOf f j) (tileOf g j)) (hn : l.trips = n) (h₁ : lo ≤ 1024 * a) (h₂ : 1024 * (a + n) ≤ hi) (h₃ : a + n ≤ 8)
    (hob : ∀ k, ob k = ![0, 1024 * (a + k.val)]) :
    iprop(held b c lo hi fullShare f ∗ held .P c 0 8192 fullShare g)
      ⊢ WP c (addL p b l ok ob hb hp) fun _ => iprop(held b c lo hi fullShare (fill f V a n) ∗ held .P c 0 8192 fullShare g) := by
  have h := loop (c := c) (ok := ok) (body := fun k => addP p b (ob k) (hb k) (hp k))
    (fun k => iprop(held b c lo hi fullShare (fill f V a k) ∗ held .P c 0 8192 fullShare g)) hn fun k => by
      have hk := k.isLt
      have hj' : iprop(held b c lo hi fullShare (fill f V a k.val) ∗ held .P c 0 8192 fullShare g) ⊢ WP c (addP p b (ob k) (hb k) (hp k))
          fun _ => iprop(held b c lo hi fullShare (putTile (fill f V a k.val) (⟨a + k.val, by omega⟩ : Fin 8) (tileOf V ⟨a + k.val, by omega⟩)) ∗ held .P c 0 8192 fullShare g) := by
        rw [hV, ← tileOf_fill f V (a := a) (n := k.val) (j := ⟨a + k.val, by omega⟩) (Nat.le_refl _)]
        exact add_spec (c := c) p b (⟨a + k.val, by omega⟩ : Fin 8) (by show lo ≤ 1024 * (a + k.val); omega) (by show 1024 * (a + k.val) + 1024 ≤ hi; omega) (hob k)
      rw [fill_succ f V rfl] at hj'
      exact hj'
  rw [fill_zero] at h
  exact h

/-- A loop of stores of tiles of chunk `ch`. -/
theorem outL_spec {c ch : Dev nD} {N : ℕ} {X : Tile F} (b : BufId) {l : Scf.Loop 32} {ok : l.OK} {ob oo : Fin l.trips → Fin 2 → ℕ} {hb ho} {lo hi a n : ℕ} {q} {f : Wide F}
    {D : Dev nD → ℕ → Prop} (hf : ∀ i, 1024 * a ≤ (i 1).val → (i 1).val < 1024 * (a + n) → f i = fin m ch i) (hn : l.trips = n) (h₁ : lo ≤ 1024 * a) (h₂ : 1024 * (a + n) ≤ hi) (h₃ : a + n ≤ 8)
    (hob : ∀ k, ob k = ![0, 1024 * (a + k.val)]) (hoo : ∀ k, oo k = ![1024 * ch.val, 1024 * (a + k.val)]) :
    iprop(levAts L lv ∗ Wk m c N X ∗ held b c lo hi q f ∗ outs m c D)
      ⊢ WP c (outL b l ok ob oo hb ho) fun _ => iprop(Wk m c N X ∗ held b c lo hi q f ∗ outs m c (more D ch a n)) := by
  iintro ⟨#Hlev, Hw, Hb, Ho⟩
  iapply (wp_wand_r frame _ _)
  isplitl
  · iapply (loop (fun k => iprop(levAts L lv ∗ Wk m c N X ∗ held b c lo hi q f ∗ outs m c (more D ch a k))) hn fun k => ?_)
    rotate_left
    · rw [show more D ch a 0 = D from funext fun x => funext fun j => propext ⟨fun h => h.elim id fun h => by omega, Or.inl⟩]
      isplitr; · iexact Hlev
      isplitl [Hw]; · iexact Hw
      isplitl [Hb] <;> iassumption
    · have hk := k.isLt
      iintro ⟨#Hlev, Hw, Hb, Ho⟩
      iapply (wp_wand_r frame _ _)
      isplitl
      · iapply (out_spec m b (⟨a + k.val, by omega⟩ : Fin 8) (ch := ch) (lo := lo) (hi := hi) (D := more D ch a k.val) (D' := more D ch a (k.val + 1)) (by show lo ≤ 1024 * (a + k.val); omega) (by show 1024 * (a + k.val) + 1024 ≤ hi; omega)
          ?_ ?_ (hob k) (hoo k))
        · funext i
          have hi' : (i 1).val < 1024 := (i 1).isLt
          have e : (((tileR (⟨a + k.val, by omega⟩ : Fin 8)).emb i) 1).val = 1024 * (a + k.val) + 1 * (i 1).val := rfl
          exact hf _ (by omega) (by omega)
        · intro ch' j' h
          rcases h with h | ⟨h, h', h''⟩
          · exact Or.inl (Or.inl h)
          · by_cases hj : j' = a + k.val
            · exact Or.inr ⟨h, hj⟩
            · exact Or.inl (Or.inr ⟨h, h', by omega⟩)
        isplitr; · iexact Hlev
        isplitl [Hw]; · iexact Hw
        isplitl [Hb] <;> iassumption
      · iintro %_ H
        isplitr; · iexact Hlev
        iexact H
  · iintro %_ ⟨_, H⟩; iexact H

end Cert.Gemm

end

end
-- ==== Proof.Steps.lean ====
/- The steps devices take together: signalling and waiting at a barrier, sending a piece to a neighbour, waiting for a piece
   to be sent and for a neighbour's to land. -/
module

public import proofs.«01_k».proof.Proof.Loops

@[expose] public section

noncomputable section

namespace Cert.Gemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (K : Dev nD × Cid → ℕ)

/-- What every device may use as often as it likes: that the cells keep to the schedule, and the levels. -/
def Env : sProp 𝕄 :=
  iprop(bigSep Finset.univ (fun x : Dev nD × Cid => cellInv ER (ringRd m) (K x) (cell x.1 x.2)) ∗ levAts L lv)

instance Env_persistent : Persistent (Env (F := F) m K) := by unfold Env; infer_instance

theorem bigSep_univ_cell {I : Type} [Fintype I] [DecidableEq I] (Φ : I → sProp 𝕄) (i : I) : bigSep Finset.univ Φ ⊢ Φ i := by
  exact bigSep_elim (Finset.mem_univ i)

theorem Env_cell (c : Dev nD) (x : Cid) : Env (F := F) m K ⊢ cellInv ER (ringRd m) (K (c, x)) (cell c x) := by
  unfold Env
  iintro ⟨H, _⟩
  iapply (bigSep_univ_cell _ (c, x)) $$ H
theorem Env_lev : Env (F := F) m K ⊢ levAts L lv := by
  unfold Env; iintro ⟨_, H⟩; iexact H

theorem pay_bar {c : Dev nD} {p : ℕ} {b : Bool} (hp : p < 6) : pay (F := F) m c barC p b = grant p b (nbr b c) := by
  unfold pay; simp only; rw [if_pos hp]
theorem pay_last {c : Dev nD} {b : Bool} : pay (F := F) m c barC 6 b = iprop(emp) := rfl
theorem pay_snd {c : Dev nD} {d k : Bool} {r p : ℕ} {b : Bool} (h : ph k r = p) :
    pay (F := F) m c (sndC d k) r b = held (srcB p) c (lo d k) (hi d k p) lent (cur m p c) := by
  subst h; rfl
theorem pay_rcv {c : Dev nD} {d k : Bool} {r p : ℕ} {b : Bool} (h : ph k r = p) :
    pay (F := F) m c (rcvC d k) r b = iprop(held (dstB p) c (lo d k) (hi d k p) fullShare (got m p c) ∗ reached ER (cell (nbr (!d) c) barC) (p + 1)) := by
  subst h; rfl

/-- The next payment made. -/
theorem Pays_cons {n : ℕ} {x : Pmt} {l : List Pmt} (h : plan.drop n = x :: l) : plan.drop (n + 1) = l := by
  rw [← List.drop_drop, h]; rfl

/-! ## Barriers -/

theorem mem_bar (c : Dev nD) {p : ℕ} {b : Bool} (hp : p < 7) : b ∈ (ringRd (F := F) m).duties ((c : Thread nD τ), SemLoc.reg barS) p := by
  have h : (ringRd (F := F) m).duties ((c : Thread nD τ), SemLoc.reg barS) p = dutiesOf barC p := duties_cell m c barC p
  rw [h]
  unfold dutiesOf
  rw [if_pos (show p < nrounds barC from hp), if_pos rfl]
  exact Finset.mem_univ _

/-- Signalling the neighbour in direction `d`. -/
theorem sig_spec {c dv : Dev nD} {n : ℕ} {d : Bool} {p : ℕ} {l : List Pmt} (hx : plan.drop n = .sgl d p :: l) (hp : p < 7) (hn : dv = nbr d c) :
    iprop(Env m K ∗ Pays c n ∗ pay m (nbr d c) barC p (!d) ∗ reached ER (cell (nbr d c) barC) p) ⊢ WP c (sigP dv) fun _ => Pays (F := F) c (n + 1) := by
  subst hn
  unfold sigP Pays
  rw [Pays_cons hx, hx, toks, tok]
  simp only [semSignalWord, Prog.lift, Prog.bind_op, Prog.bind_ret, Prog.pure_eq_ret]
  iintro ⟨#Henv, ⟨⟨%W, HO⟩, ⟨Htok, Htoks⟩⟩, Hpay, #Hr⟩
  iapply (Rounds.wp_signal 𝒱₀ ER (ringRd m) (c : Thread nD τ) none (dst := (nbr d c : Thread nD τ)) (κ := K (nbr d c, barC)) (r := p)
      (d := !d) (mem_bar m (nbr d c) hp)
      ((amount_cell m (nbr d c) barC p (!d)).trans ((show amtOf barC p = 1 from rfl).trans (by decide))) p (owed c l) rfl) $$ [HO Htok Hpay]
  · isplitr; · iapply (Env_cell m K (nbr d c) barC); iexact Henv
    isplitl [HO]; · iexact HO
    isplitl [Htok]; · iexact Htok
    isplitl [Hpay]
    · iapply (show pay m (nbr d c) barC p (!d) ⊢ (ringRd m).payload ((nbr d c : Thread nD τ), SemLoc.reg barS) p (!d)
        from Entails.of_eq (payload_cell m (nbr d c) barC p (!d)).symm)
      iexact Hpay
    iexact Hr
  iintro HO
  iapply ret
  isplitl [HO]; · iexists W; iexact HO
  iexact Htoks

/-- Waiting at barrier `p`. -/
theorem bar_spec {c : Dev nD} {n p : ℕ} (hp : p < 7) (hw : ∀ x ∈ plan.drop n, 2 * p + 1 < x.lev) :
    iprop(Env m K ∗ Pays c n ∗ cred (tallyAt (cell c barC) p 2) ∗ atPos ER (cell c barC) p ∅ 0)
      ⊢ WP c barP fun _ => iprop(Pays (F := F) c n ∗ atPos ER (cell c barC) (p + 1) ∅ 0 ∗ reached ER (cell c barC) (p + 1) ∗ pay m c barC p false ∗ pay m c barC p true) := by
  unfold barP Pays
  simp only [semWaitWord, Prog.lift, Prog.bind_op, Prog.bind_ret, Prog.pure_eq_ret]
  iintro ⟨#Henv, ⟨⟨%W, HO⟩, Htoks⟩, Hc, Hat⟩
  iapply (Rounds.wp_wait_rest_token 𝒱₀ ER (ringRd m) (c : Thread nD τ) none (κ := K (c, barC))
      (wpE_semWait_eq 𝒱₀ (c : Thread nD τ) none Set.univ) (Set.mem_univ _) p (O := owed c (plan.drop n)) (W := W) (R := p) (m := 0) (T := ∅)
      ((by decide : (0 : ℕ) + (2#32 : BitVec 32).toInt.toNat = 2).trans (expect_bar m c p hp).symm)) $$ [HO Hc Hat]
  · isplitr; · iapply (Env_cell m K c barC); iexact Henv
    isplitl [Hc]; · iexact Hc
    isplitl [HO]; · iexact HO
    isplitr
    · iapply (mayWait c (.reg barS) p n (by omega) hw); iapply (Env_lev m K); iexact Henv
    iexact Hat
  iintro ⟨HO, Hat, Hr, Hpay⟩
  ihave Hp := (show bigSep ((ringRd (F := F) m).duties ((c : Thread nD τ), SemLoc.reg barS) p \ ∅) (fun b => (ringRd (F := F) m).payload ((c : Thread nD τ), SemLoc.reg barS) p b)
    ⊢ iprop(pay m c barC p false ∗ pay m c barC p true) from Entails.of_eq (rest_bar m c p hp)) $$ Hpay
  icases Hp with ⟨H0, H1⟩
  iapply ret
  isplitl [HO Htoks]
  · isplitl [HO]; · iexists _; iexact HO
    iexact Htoks
  isplitl [Hat]; · iexact Hat
  isplitl [Hr]; · iexact Hr
  isplitl [H0] <;> iassumption

/-! ## Pieces -/

theorem piece_set (d k : Bool) (p : ℕ) : (pieceR d k p).set = cols (lo d k) (hi d k p) := by
  ext i
  rw [Rect.mem_set_unit, mem_cols]
  constructor
  · intro h
    exact h 1
  · intro h a
    fin_cases a
    · exact ⟨Nat.zero_le _, by show (i 0).val < 0 + 1024; have : (i 0).val < 1024 := (i 0).isLt; omega⟩
    · exact h

theorem pcA_set (d k : Bool) (p : ℕ) : (pc .A d k p).view.set = cols (lo d k) (hi d k p) := (View.set_slice_whole cc0_scratch3 _).trans (piece_set d k p)
theorem pcB_set (d k : Bool) (p : ℕ) : (pc .B d k p).view.set = cols (lo d k) (hi d k p) := (View.set_slice_whole cc0_scratch4 _).trans (piece_set d k p)

/-- Piece `(d, k)` written with another buffer's: its contents are that buffer's there. -/
theorem putA_piece (d k : Bool) (p : ℕ) (f g : Wide F) (i : S1024x8192.Idx) (h : lo d k ≤ (i 1).val) (h' : (i 1).val < hi d k p) :
    (pc .A d k p).view.write (Elt F) f ((pc .B d k p).view.read (Elt F) g) Finset.univ i = g i := by
  have hm : i ∈ (pc .A d k p).view.set := by rw [pcA_set, mem_cols]; exact ⟨h, h'⟩
  obtain ⟨x, -, rfl⟩ := Finset.mem_map.mp hm
  exact View.write_emb_of_mem (Val := Elt F) (v := (pc .A d k p).view) f _ (M := Finset.univ) (x := x) (Finset.mem_univ _)
theorem putB_piece (d k : Bool) (p : ℕ) (f g : Wide F) (i : S1024x8192.Idx) (h : lo d k ≤ (i 1).val) (h' : (i 1).val < hi d k p) :
    (pc .B d k p).view.write (Elt F) f ((pc .A d k p).view.read (Elt F) g) Finset.univ i = g i := by
  have hm : i ∈ (pc .B d k p).view.set := by rw [pcB_set, mem_cols]; exact ⟨h, h'⟩
  obtain ⟨x, -, rfl⟩ := Finset.mem_map.mp hm
  exact View.write_emb_of_mem (Val := Elt F) (v := (pc .B d k p).view) f _ (M := Finset.univ) (x := x) (Finset.mem_univ _)

theorem hi_le (d k : Bool) (p : ℕ) : hi d k p ≤ if d then 4096 else 8192 := by
  unfold hi lo; cases d <;> cases k <;> simp <;> split <;> omega

/-- What the neighbour in direction `d` has received is what was sent to it. -/
theorem got_nbr (p : ℕ) (d k : Bool) (c : Dev nD) (i : S1024x8192.Idx) (h : lo d k ≤ (i 1).val) (h' : (i 1).val < hi d k p) :
    got m p (nbr d c) i = cur m p c i := by
  have hh := hi_le d k p
  unfold got cur half
  cases d
  · have h4 : 4096 ≤ lo false k := by unfold lo; simp
    rw [if_neg (by omega), if_neg (by omega)]
    show sumL m (far (p + 1) (far 3 c)) p i = _
    rw [far_far, show 3 + (p + 1) = p + 4 by omega, far_four]
  · have h4 : hi true k p ≤ 4096 := hh
    rw [if_pos (by omega), if_pos (by omega)]
    show sumR m (far (3 * (p + 1)) (far 1 c)) p i = _
    rw [far_far, show 1 + 3 * (p + 1) = 3 * p + 4 by omega, far_four]

theorem amtA (d k : Bool) (p : ℕ) : (pc .A d k p).view.dmaCredit = amt k p := by
  by_cases h : k = false ∧ p = 4
  · obtain ⟨rfl, rfl⟩ := h; cases d <;> rfl
  · unfold amt; rw [if_neg h]
    have e : wide k p = 2048 := if_neg h
    show sig.dmaCredit .tc (Kind.tc.table .vmem) cc0_scratch3.idx ⟨2, ![1024, wide k p]⟩ .bf16 = _
    rw [e]; rfl
theorem amtB (d k : Bool) (p : ℕ) : (pc .B d k p).view.dmaCredit = amt k p := by
  by_cases h : k = false ∧ p = 4
  · obtain ⟨rfl, rfl⟩ := h; cases d <;> rfl
  · unfold amt; rw [if_neg h]
    have e : wide k p = 2048 := if_neg h
    show sig.dmaCredit .tc (Kind.tc.table .vmem) cc0_scratch4.idx ⟨2, ![1024, wide k p]⟩ .bf16 = _
    rw [e]; rfl

theorem mem_xfer (c : Dev nD) {v d k : Bool} {r : ℕ} (hr : r < nrounds (some (v, d, k))) :
    false ∈ (ringRd (F := F) m).duties ((c : Thread nD τ), SemLoc.dma (semNo (v, d, k))) r := by
  have h : (ringRd (F := F) m).duties ((c : Thread nD τ), SemLoc.dma (semNo (v, d, k))) r = dutiesOf (some (v, d, k)) r := duties_cell m c (some (v, d, k)) r
  rw [h]
  unfold dutiesOf
  rw [if_pos hr, if_neg (by simp)]
  exact Finset.mem_singleton_self _

/-- That piece `k` is sent in phase `p`. -/
def Sent (k : Bool) (p : ℕ) : Prop := rd k p < (if k then 5 else 6) ∧ ph k (rd k p) = p ∧ p < 6

/-- The transfer of piece `k` in direction `d` from one wide buffer to the neighbour's other. -/
theorem send_core {c : Dev nD} {p r : ℕ} {d k : Bool} {bs bd : BufId} (hb : (bs = .A ∧ bd = .B) ∨ (bs = .B ∧ bd = .A))
    (hr : r < nrounds (sndC d k)) (hph : ph k r = p) {fs f gs : Wide F} {P : sProp 𝕄} {O : CellTallies nD τ sig ℕ} {W : Waits sig ℕ}
    (hpay₁ : (held bs c (lo d k) (hi d k p) lent fs : sProp 𝕄) ⊢ pay m c (sndC d k) r false)
    (hpay₂ : iprop(held bd (nbr d c) (lo d k) (hi d k p) fullShare gs ∗ P) ⊢ pay m (nbr d c) (rcvC d k) r false)
    (hg : ∀ i, lo d k ≤ (i 1).val → (i 1).val < hi d k p → fs i = gs i)
    {h₁ h₂ h₃ h₄} {α : Type} {Q : α → sProp 𝕄} {kk : PUnit → PT F α} :
    iprop(cellInv ER (ringRd m) (K (c, sndC d k)) (cell c (sndC d k)) ∗ cellInv ER (ringRd m) (K (nbr d c, rcvC d k)) (cell (nbr d c) (rcvC d k))
        ∗ held bs c (lo d k) (hi d k p) lent fs ∗ (held bd (nbr d c) (lo d k) (hi d k p) fullShare f ∗ P)
        ∗ owes (c : Thread nD τ) (O + tallyAt (cell (nbr d c) (rcvC d k)) r (amt k p)) W
        ∗ dutyTok ER (cell c (sndC d k)) r false ∗ reached ER (cell c (sndC d k)) r
        ∗ dutyTok ER (cell (nbr d c) (rcvC d k)) r false ∗ reached ER (cell (nbr d c) (rcvC d k)) r)
      ⊢ iprop(((cred (tallyAt (cell c (sndC d k)) r (amt k p)) ∗ owes (c : Thread nD τ) O W) -∗ WP c (kk ⟨⟩) Q)
        -∗ WP c (.op (.enqueueDma (pc bs d k p) (.remote (Dev.tc (nbr d c)) (pc bd d k p) (.dma (semNo (false, d, k))) h₁) (.dma (semNo (true, d, k))) h₂ h₃ h₄) kk) Q) := by
  have ha : ∀ v b dv, (ringRd (F := F) m).amount (cell dv (some (v, d, k))) r b = amt k p := fun v b dv => by
    rw [amount_cell]; show amt k (ph k r) = _; rw [hph]
  have hpay1 := BIBase.Entails.trans hpay₁ (Entails.of_eq (payload_cell m c (sndC d k) r false).symm)
  have hpay2 := BIBase.Entails.trans hpay₂ (Entails.of_eq (payload_cell m (nbr d c) (rcvC d k) r false).symm)
  rcases hb with ⟨rfl, rfl⟩ | ⟨rfl, rfl⟩
  · have h := Rounds.wp_send_pointsTo_with (defs := defs₀ (F := F)) (Γ := .empty) (Es := Set.univ) (Q := Q) (k := kk) (hsrc := h₂) (hdst := h₃) (hsem := h₄) (hsc := h₁) 𝒱₀ ER (ringRd m) (c : Thread nD τ) none (c' := (nbr d c : Thread nD τ)) (src := pc .A d k p) (dst := pc .B d k p)
      (q := lent) (fs := fs) (fd := f) (F := P) (κ₁ := K (c, sndC d k)) (κ₂ := K (nbr d c, rcvC d k)) (r₁ := r) (r₂ := r) (d₁ := false) (d₂ := false)
      (mem_xfer m c hr) (mem_xfer m (nbr d c) hr) r r (amt k p) (amtB d k p) (ha false false c) (ha true false (nbr d c)) O rfl (W := W)
      (by rw [pcA_set]; exact hpay1)
      (by rw [pcB_set]
          refine BIBase.Entails.trans (BIClass.sep_mono (Entails.of_eq ?_) (BI.Entails.refl _)) hpay2
          exact (held_congr (b := .B) fun i h h' => (putB_piece d k p f fs i h h').trans (hg i h h')))
    rw [pcA_set, pcB_set] at h
    exact h
  · have h := Rounds.wp_send_pointsTo_with (defs := defs₀ (F := F)) (Γ := .empty) (Es := Set.univ) (Q := Q) (k := kk) (hsrc := h₂) (hdst := h₃) (hsem := h₄) (hsc := h₁) 𝒱₀ ER (ringRd m) (c : Thread nD τ) none (c' := (nbr d c : Thread nD τ)) (src := pc .B d k p) (dst := pc .A d k p)
      (q := lent) (fs := fs) (fd := f) (F := P) (κ₁ := K (c, sndC d k)) (κ₂ := K (nbr d c, rcvC d k)) (r₁ := r) (r₂ := r) (d₁ := false) (d₂ := false)
      (mem_xfer m c hr) (mem_xfer m (nbr d c) hr) r r (amt k p) (amtA d k p) (ha false false c) (ha true false (nbr d c)) O rfl (W := W)
      (by rw [pcB_set]; exact hpay1)
      (by rw [pcA_set]
          refine BIBase.Entails.trans (BIClass.sep_mono (Entails.of_eq ?_) (BI.Entails.refl _)) hpay2
          exact (held_congr (b := .A) fun i h h' => (putA_piece d k p f fs i h h').trans (hg i h h')))
    rw [pcA_set, pcB_set] at h
    exact h

/-- Sending piece `k` in direction `d`. -/
theorem send_spec {c dv : Dev nD} {n p : ℕ} {d k : Bool} {l : List Pmt} (hx : plan.drop n = .xf d k p :: l) (hs : Sent k p) (hn : dv = nbr d c) :
    iprop(Env m K ∗ Pays c n ∗ held (srcB p) c (lo d k) (hi d k p) lent (cur m p c) ∗ (∃ f, held (dstB p) (nbr d c) (lo d k) (hi d k p) fullShare f)
        ∗ reached ER (cell c (sndC d k)) (rd k p) ∗ reached ER (cell (nbr d c) (rcvC d k)) (rd k p) ∗ reached ER (cell c barC) (p + 1))
      ⊢ WP c (sendP d k p dv) fun _ => iprop(Pays (F := F) c (n + 1) ∗ cred (tallyAt (cell c (sndC d k)) (rd k p) (amt k p))) := by
  obtain ⟨hr, hph, hp⟩ := hs
  subst hn
  have hsd : (srcB p = .A ∧ dstB p = .B) ∨ (srcB p = .B ∧ dstB p = .A) := by
    unfold srcB dstB; by_cases h : p % 2 = 0 <;> simp [h]
  have hpay2 := Entails.of_eq (pay_rcv m (c := nbr d c) (d := d) (b := false) hph).symm
  rw [nbr_nbr] at hpay2
  unfold sendP Pays
  rw [Pays_cons hx, hx, toks, tok]
  simp only [Prog.lift]
  iintro ⟨#Henv, ⟨⟨%W, HO⟩, ⟨⟨Htr, Hts⟩, Htoks⟩⟩, Hsrc, ⟨%f, Hdst⟩, #Hrs, #Hrr, #Hb⟩
  iapply (send_core m K hsd hr hph (W := W) (O := owed c l) (f := f) (Entails.of_eq (pay_snd m (c := c) (d := d) (b := false) hph).symm) hpay2
    (fun i h h' => (got_nbr m p d k c i h h').symm)) $$ [HO Htr Hts Hsrc Hdst]
  · isplitr; · iapply (Env_cell m K c (sndC d k)); iexact Henv
    isplitr; · iapply (Env_cell m K (nbr d c) (rcvC d k)); iexact Henv
    isplitl [Hsrc]; · iexact Hsrc
    isplitl [Hdst]
    · isplitl [Hdst]; · iexact Hdst
      iexact Hb
    isplitl [HO]; · iexact HO
    isplitl [Hts]; · iexact Hts
    isplitr; · iexact Hrs
    isplitl [Htr]; · iexact Htr
    iexact Hrr
  iintro ⟨Hc, HO⟩
  iapply ret
  isplitr [Hc]
  · isplitl [HO]; · iexists W; iexact HO
    iexact Htoks
  iexact Hc

/-- What a wait for a transfer asks of the credit. -/
theorem amt_wait (b : BufId) (d k : Bool) (p : ℕ) (hb : b ≠ .P) : (pc b d k p).view.dmaCredit = amt k p := by
  cases b
  · exact amtA d k p
  · exact amtB d k p
  · exact absurd rfl hb

/-- Waiting for a transfer at either end. -/
theorem wait_core {c : Dev nD} {n p r : ℕ} {v d k : Bool} {b b' : BufId} (hb : b' ≠ .P) (hr : r < nrounds (some (v, d, k))) (hph : ph k r = p)
    (hw : ∀ x ∈ plan.drop n, lv (cell c (some (v, d, k))) r < x.lev) {h₁ h₂} {α : Type} {Q : α → sProp 𝕄} {kk : PUnit → PT F α} :
    iprop(Env m K ∗ Pays c n ∗ cred (tallyAt (cell c (some (v, d, k))) r (amt k p)) ∗ atPos ER (cell c (some (v, d, k))) r ∅ 0)
      ⊢ iprop(((Pays (F := F) c n ∗ atPos ER (cell c (some (v, d, k))) (r + 1) ∅ 0 ∗ reached ER (cell c (some (v, d, k))) (r + 1) ∗ pay m c (some (v, d, k)) r false)
        -∗ WP c (kk ⟨⟩) Q)
        -∗ WP c (.op (.waitDma2 (semNo (v, d, k)) (pc b d k p) (pc b' d k p) h₁ h₂) kk) Q) := by
  have hr8 : r < 8 := by
    have : nrounds (some (v, d, k)) ≤ 6 := by unfold nrounds; cases k <;> simp
    omega
  unfold Pays
  rw [← amt_wait b' d k p hb]
  iintro ⟨#Henv, ⟨⟨%W, HO⟩, Htoks⟩, Hc, Hat⟩ HK
  iapply (Rounds.wp_wait_rest_token 𝒱₀ ER (ringRd m) (c : Thread nD τ) none (κ := K (c, some (v, d, k)))
      (wpE_waitDma2_eq 𝒱₀ (c : Thread nD τ) none Set.univ) (Set.mem_univ _) r (O := owed c (plan.drop n)) (W := W) (R := r) (m := 0) (T := ∅)
      ((Nat.zero_add _).trans (((amt_wait b' d k p hb).trans (by rw [hph])).trans (expect_xfer m c r hr).symm))) $$ [HO Hc Hat]
  · isplitr; · iapply (Env_cell m K c (some (v, d, k))); iexact Henv
    isplitl [Hc]; · iexact Hc
    isplitl [HO]; · iexact HO
    isplitr
    · iapply (mayWait c (.dma (semNo (v, d, k))) r n hr8 hw); iapply (Env_lev m K); iexact Henv
    iexact Hat
  iintro ⟨HO, Hat, Hr, Hpay⟩
  ihave Hp := (show bigSep ((ringRd (F := F) m).duties ((c : Thread nD τ), SemLoc.dma (semNo (v, d, k))) r \ ∅) (fun b => (ringRd (F := F) m).payload ((c : Thread nD τ), SemLoc.dma (semNo (v, d, k))) r b)
    ⊢ pay m c (some (v, d, k)) r false from Entails.of_eq (rest_xfer m c r hr)) $$ Hpay
  iapply HK
  isplitl [HO Htoks]
  · isplitl [HO]; · iexists _; iexact HO
    iexact Htoks
  isplitl [Hat]; · iexact Hat
  isplitl [Hr]; · iexact Hr
  iexact Hp

/-- Waiting for both ends of piece `k` in direction `d`: the lent piece comes back, and the neighbour's is there. -/
theorem end_spec {c : Dev nD} {n p : ℕ} {d k : Bool} (hs : Sent k p) (hw : ∀ x ∈ plan.drop n, 2 * p + 2 < x.lev) :
    iprop(Env m K ∗ Pays c n ∗ cred (tallyAt (cell c (sndC d k)) (rd k p) (amt k p)) ∗ cred (tallyAt (cell c (rcvC d k)) (rd k p) (amt k p))
        ∗ atPos ER (cell c (sndC d k)) (rd k p) ∅ 0 ∗ atPos ER (cell c (rcvC d k)) (rd k p) ∅ 0)
      ⊢ WP c (endP d k p) fun _ => iprop(Pays (F := F) c n ∗ held (srcB p) c (lo d k) (hi d k p) lent (cur m p c)
        ∗ held (dstB p) c (lo d k) (hi d k p) fullShare (got m p c) ∗ reached ER (cell (nbr (!d) c) barC) (p + 1)
        ∗ atPos ER (cell c (sndC d k)) (rd k p + 1) ∅ 0 ∗ reached ER (cell c (sndC d k)) (rd k p + 1)
        ∗ atPos ER (cell c (rcvC d k)) (rd k p + 1) ∅ 0 ∗ reached ER (cell c (rcvC d k)) (rd k p + 1)) := by
  obtain ⟨hr, hph, hp⟩ := hs
  have hsd : srcB p ≠ .P ∧ dstB p ≠ .P := by
    unfold srcB dstB; by_cases h : p % 2 = 0 <;> simp [h]
  unfold endP sentP recvP
  simp only [Prog.lift, Prog.bind_op, Prog.bind_ret]
  iintro ⟨#Henv, HP, Hcs, Hcr, Has, Har⟩
  iapply (wait_core m K (v := false) hsd.1 hr hph ?_) $$ [HP Hcs Has]
  rotate_left
  · isplitr; · iexact Henv
    isplitl [HP]; · iexact HP
    isplitl [Hcs] <;> iassumption
  · iintro ⟨HP, Has, Hrs, Hps⟩
    iapply (wait_core m K (v := true) hsd.2 hr hph ?_) $$ [HP Hcr Har]
    rotate_left
    · isplitr; · iexact Henv
      isplitl [HP]; · iexact HP
      isplitl [Hcr] <;> iassumption
    · iintro ⟨HP, Har, Hrr, Hpr⟩
      ihave Hps := (Entails.of_eq (pay_snd m hph)) $$ Hps
      ihave Hpr := (Entails.of_eq (pay_rcv m hph)) $$ Hpr
      icases Hpr with ⟨Hpr, Hb⟩
      iapply ret
      isplitl [HP]; · iexact HP
      isplitl [Hps]; · iexact Hps
      isplitl [Hpr]; · iexact Hpr
      isplitl [Hb]; · iexact Hb
      isplitl [Has]; · iexact Has
      isplitl [Hrs]; · iexact Hrs
      isplitl [Har] <;> iassumption
    · intro x hx
      have e : lv (cell c (rcvC d k)) (rd k p) = 2 * p + 2 := by unfold lv; dsimp only [cell]; rw [cidOf_csem]; show 2 * ph k (rd k p) + 2 = _; rw [hph]
      rw [e]; exact hw x hx
  · intro x hx
    have e : lv (cell c (sndC d k)) (rd k p) = 0 := by unfold lv; dsimp only [cell]; rw [cidOf_csem]
    rw [e]; exact lev_pos x

end Cert.Gemm

end

end
-- ==== Proof.Turns.lean ====
/- The steps taken in both directions: a barrier, two pieces sent, two pieces received. -/
module

public import proofs.«01_k».proof.Proof.Steps

@[expose] public section

noncomputable section

namespace Cert.Gemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (K : Dev nD × Cid → ℕ)

/-- Two steps at the head of a program. -/
theorem step2 {c : Dev nD} {α β γ : Type} {p : PT F α} {p' : PT F β} {k : β → PT F γ} {P R : sProp 𝕄} {Q : γ → sProp 𝕄}
    (h : P ⊢ WP c (p >>= fun _ => p') fun _ => R) : P ⊢ iprop((∀ a, R -∗ WP c (k a) Q) -∗ WP c (p >>= fun _ => p' >>= k) Q) := by
  rw [← bind_assoc]
  exact step h

/-- The last step of a program. -/
theorem last {c : Dev nD} {α : Type} {p : PT F α} {P R : sProp 𝕄} {Q : α → sProp 𝕄} (h : P ⊢ WP c p fun _ => R) :
    P ⊢ iprop((∀ a, R -∗ Q a) -∗ WP c p Q) := by
  iintro HP HK
  iapply (wp_wand_r frame _ _)
  isplitl [HP]
  · iapply h; iexact HP
  · iexact HK

/-- The two pieces `k` of a buffer. -/
def mine (b : BufId) (c : Dev nD) (k : Bool) (p : ℕ) (q : PosShare TreeShare) (f : Wide F) : sProp 𝕄 :=
  iprop(held b c (lo true k) (hi true k p) q f ∗ held b c (lo false k) (hi false k p) q f)

/-- Device `c`'s two cells for piece `k` in direction `d`, at round `r`; -/
def ChD (c : Dev nD) (d k : Bool) (r : ℕ) : sProp 𝕄 :=
  iprop(atPos ER (cell c (sndC d k)) r ∅ 0 ∗ reached ER (cell c (sndC d k)) r ∗ atPos ER (cell c (rcvC d k)) r ∅ 0 ∗ reached ER (cell c (rcvC d k)) r)
/-- and in both directions. -/
def Ch (c : Dev nD) (k : Bool) (r : ℕ) : sProp 𝕄 := iprop(ChD c true k r ∗ ChD c false k r)

/-- The credit for the two pieces `k` the neighbours send in phase `p`; -/
def crd (c : Dev nD) (k : Bool) (p : ℕ) : sProp 𝕄 :=
  iprop(cred (tallyAt (cell c (rcvC true k)) (rd k p) (amt k p)) ∗ cred (tallyAt (cell c (rcvC false k)) (rd k p) (amt k p)))

/-- The neighbours' destinations for the two pieces `k` of phase `p`. -/
def roomD (c : Dev nD) (d k : Bool) (p : ℕ) : sProp 𝕄 :=
  iprop((∃ f : Wide F, held (dstB p) (nbr d c) (lo d k) (hi d k p) fullShare f) ∗ reached ER (cell (nbr d c) (rcvC d k)) (rd k p))
def room (c : Dev nD) (k : Bool) (p : ℕ) : sProp 𝕄 := iprop(roomD c true k p ∗ roomD c false k p)

/-- Two pieces on their way. -/
def flight (c : Dev nD) (k : Bool) (p : ℕ) : sProp 𝕄 :=
  iprop(mine (srcB p) c k p kept (cur m p c) ∗ Ch c k (rd k p) ∗ crd c k p
    ∗ cred (tallyAt (cell c (sndC true k)) (rd k p) (amt k p)) ∗ cred (tallyAt (cell c (sndC false k)) (rd k p) (amt k p)))

theorem send2 {c dv dv' : Dev nD} {n p : ℕ} {k : Bool} {X : Tile F} {l : List Pmt} (hx : plan.drop n = .xf true k p :: .xf false k p :: l) (hs : Sent k p)
    (hn : dv = nbr true c) (hn' : dv' = nbr false c) :
    iprop(Env m K ∗ Wk m c n X ∗ mine (srcB p) c k p fullShare (cur m p c) ∗ room c k p ∗ Ch c k (rd k p) ∗ crd c k p ∗ reached ER (cell c barC) (p + 1))
      ⊢ WP c (sendP true k p dv >>= fun _ => sendP false k p dv') fun _ => iprop(Wk m c (n + 2) X ∗ flight m c k p) := by
  unfold flight Wk mine room roomD Ch ChD
  iintro ⟨#Henv, ⟨HP, Hs, Hw, Hxc, Hx, HW, Hl⟩, ⟨Hm1, Hm0⟩, ⟨⟨Hd1, #Hr1⟩, ⟨Hd0, #Hr0⟩⟩, ⟨⟨Has1, #Hrs1, Har1, #Hrr1⟩, ⟨Has0, #Hrs0, Har0, #Hrr0⟩⟩, Hcrd, #Hb⟩
  ihave Hm1 := (held_share).1 $$ Hm1
  icases Hm1 with ⟨Hk1, Hl1⟩
  ihave Hm0 := (held_share).1 $$ Hm0
  icases Hm0 with ⟨Hk0, Hl0⟩
  iapply (step (send_spec m K hx hs hn)) $$ [HP Hl1 Hd1]
  · isplitr; · iexact Henv
    isplitl [HP]; · iexact HP
    isplitl [Hl1]; · iexact Hl1
    isplitl [Hd1]; · iexact Hd1
    isplitr; · iexact Hrs1
    isplitr; · iexact Hr1
    iexact Hb
  iintro %_ ⟨HP, Hc1⟩
  iapply (last (send_spec m K (Pays_cons hx) hs hn')) $$ [HP Hl0 Hd0]
  · isplitr; · iexact Henv
    isplitl [HP]; · iexact HP
    isplitl [Hl0]; · iexact Hl0
    isplitl [Hd0]; · iexact Hd0
    isplitr; · iexact Hrs0
    isplitr; · iexact Hr0
    iexact Hb
  iintro %_ ⟨HP, Hc0⟩
  isplitl [HP Hs Hw Hxc Hx HW Hl]
  · isplitl [HP]; · iexact HP
    isplitl [Hs]; · iexact Hs
    isplitl [Hw]; · iexact Hw
    isplitl [Hxc]; · iexact Hxc
    isplitl [Hx]; · iexact Hx
    isplitl [HW] <;> iassumption
  isplitl [Hk1 Hk0]
  · isplitl [Hk1] <;> iassumption
  isplitl [Has1 Har1 Has0 Har0]
  · isplitl [Has1 Har1]
    · isplitl [Has1]; · iexact Has1
      isplitr; · iexact Hrs1
      isplitl [Har1]; · iexact Har1
      iexact Hrr1
    · isplitl [Has0]; · iexact Has0
      isplitr; · iexact Hrs0
      isplitl [Har0]; · iexact Har0
      iexact Hrr0
  isplitl [Hcrd]; · iexact Hcrd
  isplitl [Hc1] <;> iassumption

/-- That the neighbours have passed a barrier. -/
def past (c : Dev nD) (p : ℕ) : sProp 𝕄 := iprop(reached ER (cell (nbr true c) barC) p ∗ reached ER (cell (nbr false c) barC) p)
instance past_persistent (c : Dev nD) (p : ℕ) : Persistent (past (F := F) c p) := by unfold past; infer_instance

theorem end2 {c : Dev nD} {n p : ℕ} {k : Bool} {X : Tile F} (hs : Sent k p) (hw : ∀ x ∈ plan.drop n, 2 * p + 2 < x.lev) :
    iprop(Env m K ∗ Wk m c n X ∗ flight m c k p)
      ⊢ WP c (endP true k p >>= fun _ => endP false k p) fun _ => iprop(Wk m c n X ∗ mine (srcB p) c k p fullShare (cur m p c)
        ∗ mine (dstB p) c k p fullShare (got m p c) ∗ past c (p + 1) ∗ Ch c k (rd k p + 1)) := by
  unfold flight Wk mine Ch ChD past crd
  iintro ⟨#Henv, ⟨HP, Hs, Hw, Hxc, Hx, HW, Hl⟩, ⟨Hk1, Hk0⟩, ⟨⟨Has1, #Hrs1, Har1, #Hrr1⟩, ⟨Has0, #Hrs0, Har0, #Hrr0⟩⟩, ⟨Hcr1, Hcr0⟩, Hcs1, Hcs0⟩
  iapply (step (end_spec m K hs hw)) $$ [HP Hcs1 Hcr1 Has1 Har1]
  · isplitr; · iexact Henv
    isplitl [HP]; · iexact HP
    isplitl [Hcs1]; · iexact Hcs1
    isplitl [Hcr1]; · iexact Hcr1
    isplitl [Has1] <;> iassumption
  iintro %_ ⟨HP, Hl1, Hg1, Hb1, Has1, Hrs1', Har1, Hrr1'⟩
  iapply (last (end_spec m K hs hw)) $$ [HP Hcs0 Hcr0 Has0 Har0]
  · isplitr; · iexact Henv
    isplitl [HP]; · iexact HP
    isplitl [Hcs0]; · iexact Hcs0
    isplitl [Hcr0]; · iexact Hcr0
    isplitl [Has0] <;> iassumption
  iintro %_ ⟨HP, Hl0, Hg0, Hb0, Has0, Hrs0', Har0, Hrr0'⟩
  isplitl [HP Hs Hw Hxc Hx HW Hl]
  · isplitl [HP]; · iexact HP
    isplitl [Hs]; · iexact Hs
    isplitl [Hw]; · iexact Hw
    isplitl [Hxc]; · iexact Hxc
    isplitl [Hx]; · iexact Hx
    isplitl [HW] <;> iassumption
  isplitl [Hk1 Hk0 Hl1 Hl0]
  · isplitl [Hk1 Hl1]
    · iapply (held_share).2; isplitl [Hk1] <;> iassumption
    · iapply (held_share).2; isplitl [Hk0] <;> iassumption
  isplitl [Hg1 Hg0]
  · isplitl [Hg1] <;> iassumption
  isplitl [Hb1 Hb0]
  · isplitl [Hb0]; · iexact Hb0
    iexact Hb1
  isplitl [Has1 Har1 Hrs1' Hrr1']
  · isplitl [Has1]; · iexact Has1
    isplitl [Hrs1']; · iexact Hrs1'
    isplitl [Har1] <;> iassumption
  · isplitl [Has0]; · iexact Has0
    isplitl [Hrs0']; · iexact Hrs0'
    isplitl [Har0] <;> iassumption

/-! ## Barriers -/

/-- The credit for the neighbours' two signals. -/
def bcrd (c : Dev nD) (p : ℕ) : sProp 𝕄 := iprop(cred (tallyAt (cell c barC) p 1) ∗ cred (tallyAt (cell c barC) p 1))

omit [FloatOps F] in
theorem bcrd_two (c : Dev nD) (p : ℕ) : (bcrd c p : sProp 𝕄) ⊢ cred (tallyAt (cell c barC) p 2) := by
  unfold bcrd
  rw [show (tallyAt (cell c barC) p 2 : CellTallies nD τ sig ℕ) = tallyAt (cell c barC) p 1 + tallyAt (cell c barC) p 1 from (tallyAt_add _ _ 1 1).symm]
  exact (cred_add _ _).2

/-- Signalling both neighbours and waiting for both. -/
theorem bar_core {c dv dv' : Dev nD} {n p : ℕ} {X : Tile F} {l : List Pmt} (hx : plan.drop n = .sgl false p :: .sgl true p :: l) (hp : p < 7)
    (hn : dv = nbr false c) (hn' : dv' = nbr true c) (hw : ∀ x ∈ l, 2 * p + 1 < x.lev) :
    iprop(Env m K ∗ Wk m c n X ∗ bcrd c p ∗ atPos ER (cell c barC) p ∅ 0 ∗ past c p ∗ pay m (nbr false c) barC p true ∗ pay m (nbr true c) barC p false)
      ⊢ WP c (sigP dv >>= fun _ => sigP dv' >>= fun _ => barP) fun _ => iprop(Wk m c (n + 2) X ∗ atPos ER (cell c barC) (p + 1) ∅ 0
        ∗ reached ER (cell c barC) (p + 1) ∗ pay m c barC p false ∗ pay m c barC p true) := by
  have hl : plan.drop (n + 2) = l := Pays_cons (Pays_cons hx)
  unfold Wk past
  iintro ⟨#Henv, ⟨HP, Hs, Hw, Hxc, Hx, HW, Hl⟩, Hc, Hat, ⟨#Hb1, #Hb0⟩, Hp1, Hp0⟩
  iapply (step (sig_spec m K hx hp hn)) $$ [HP Hp1]
  · isplitr; · iexact Henv
    isplitl [HP]; · iexact HP
    isplitl [Hp1]; · iexact Hp1
    iexact Hb0
  iintro %_ HP
  iapply (step (sig_spec m K (Pays_cons hx) hp hn')) $$ [HP Hp0]
  · isplitr; · iexact Henv
    isplitl [HP]; · iexact HP
    isplitl [Hp0]; · iexact Hp0
    iexact Hb1
  iintro %_ HP
  ihave Hc := (bcrd_two c p) $$ Hc
  iapply (last (bar_spec m K hp (by rw [hl]; exact hw))) $$ [HP Hc Hat]
  · isplitr; · iexact Henv
    isplitl [HP]; · iexact HP
    isplitl [Hc] <;> iassumption
  iintro %_ ⟨HP, Hat, Hr, H0, H1⟩
  isplitl [HP Hs Hw Hxc Hx HW Hl]
  · isplitl [HP]; · iexact HP
    isplitl [Hs]; · iexact Hs
    isplitl [Hw]; · iexact Hw
    isplitl [Hxc]; · iexact Hxc
    isplitl [Hx]; · iexact Hx
    isplitl [HW] <;> iassumption
  isplitl [Hat]; · iexact Hat
  isplitl [Hr]; · iexact Hr
  isplitl [H0] <;> iassumption

/-- The neighbours' destinations in phase `p`. -/
def rooms (c : Dev nD) (p : ℕ) : sProp 𝕄 := iprop(room (F := F) c false p ∗ if p = 4 then iprop(emp) else room c true p)

/-- A neighbour's grant is its destination. -/
theorem grant_room (c : Dev nD) (d : Bool) (p : ℕ) :
    (grant (F := F) p d (nbr d c) : sProp 𝕄) ⊢ iprop(roomD c d false p ∗ if p = 4 then iprop(emp) else roomD c d true p) := by
  unfold grant roomD
  by_cases h : p = 4
  · subst h
    rw [if_pos rfl]
    iintro ⟨Hf, Hr, -⟩
    isplitr []
    · isplitl [Hf]; · iexact Hf
      iexact Hr
    · iempintro
  · rw [if_neg h]
    have e0 : hi d false p = lo d true := by unfold hi lo; cases d <;> simp [h]
    have e1 : hi d true p = lo d false + 4096 := by unfold hi lo; cases d <;> simp
    rw [e0, e1]
    have h1 : lo d false ≤ lo d true := by unfold lo; cases d <;> simp
    have h2 : lo d true ≤ lo d false + 4096 := by unfold lo; cases d <;> simp
    iintro ⟨⟨%f, Hf⟩, Hr0, Hr1⟩
    ihave Hf := (held_split h1 h2).1 $$ Hf
    icases Hf with ⟨Hf0, Hf1⟩
    isplitl [Hf0 Hr0]
    · isplitl [Hf0]; · iexists f; iexact Hf0
      iexact Hr0
    · isplitl [Hf1]; · iexists f; iexact Hf1
      iexact Hr1

omit [FloatOps F] in
/-- The two neighbours' together. -/
theorem rooms_of (c : Dev nD) (p : ℕ) : iprop((roomD c true false p ∗ if p = 4 then iprop(emp) else roomD c true true p)
    ∗ (roomD c false false p ∗ if p = 4 then iprop(emp) else roomD c false true p)) ⊢ (rooms c p : sProp 𝕄) := by
  unfold rooms room
  by_cases h : p = 4
  · simp only [if_pos h]
    iintro ⟨⟨H1, _⟩, ⟨H0, _⟩⟩
    isplitr []
    · isplitl [H1] <;> iassumption
    · iempintro
  · simp only [if_neg h]
    iintro ⟨⟨H10, H11⟩, ⟨H00, H01⟩⟩
    isplitl [H10 H00]
    · isplitl [H10] <;> iassumption
    · isplitl [H11] <;> iassumption

/-- What a device has of the barriers before phase `p`. -/
def Bar (c : Dev nD) (p : ℕ) : sProp 𝕄 := iprop(atPos ER (cell c barC) p ∅ 0 ∗ past c p)

omit [FloatOps F] in
/-- A device's own landing cells have reached their rounds. -/
theorem Ch_reached (c : Dev nD) (k : Bool) (r : ℕ) : (Ch c k r : sProp 𝕄) ⊢ iprop(reached ER (cell c (rcvC true k)) r ∗ reached ER (cell c (rcvC false k)) r ∗ Ch c k r) := by
  unfold Ch ChD
  iintro ⟨⟨Has1, #Hrs1, Har1, #Hrr1⟩, ⟨Has0, #Hrs0, Har0, #Hrr0⟩⟩
  isplitr; · iexact Hrr1
  isplitr; · iexact Hrr0
  isplitl [Has1 Har1]
  · isplitl [Has1]; · iexact Has1
    isplitr; · iexact Hrs1
    isplitl [Har1]; · iexact Har1
    iexact Hrr1
  · isplitl [Has0]; · iexact Has0
    isplitr; · iexact Hrs0
    isplitl [Har0]; · iexact Har0
    iexact Hrr0

/-- The barrier that opens phase `p`: a device gives away its destination and is given its neighbours'. -/
theorem bar3 {c dv dv' : Dev nD} {n p : ℕ} {X : Tile F} {l : List Pmt} (hx : plan.drop n = .sgl false p :: .sgl true p :: l) (hp : p < 6)
    (hn : dv = nbr false c) (hn' : dv' = nbr true c) (hw : ∀ x ∈ l, 2 * p + 1 < x.lev) :
    iprop(Env m K ∗ Wk m c n X ∗ bcrd c p ∗ Bar c p ∗ Ch c false (rd false p) ∗ Ch c true (rd true p) ∗ ∃ f, held (dstB p) c 0 8192 fullShare f)
      ⊢ WP c (sigP dv >>= fun _ => sigP dv' >>= fun _ => barP) fun _ => iprop(Wk m c (n + 2) X ∗ atPos ER (cell c barC) (p + 1) ∅ 0
        ∗ reached ER (cell c barC) (p + 1) ∗ rooms c p ∗ Ch c false (rd false p) ∗ Ch c true (rd true p)) := by
  have hg1 := pay_bar (F := F) m (c := nbr false c) (b := true) hp
  have hg0 := pay_bar (F := F) m (c := nbr true c) (b := false) hp
  rw [show nbr true (nbr false c) = c from nbr_nbr false c] at hg1
  rw [show nbr false (nbr true c) = c from nbr_nbr true c] at hg0
  unfold Bar
  iintro ⟨#Henv, Hw, Hc, ⟨Hat, #Hpast⟩, HC0, HC1, ⟨%f, Hf⟩⟩
  ihave HC0 := (Ch_reached c false _) $$ HC0
  icases HC0 with ⟨#Ht0, #Hf0, HC0⟩
  ihave HC1 := (Ch_reached c true _) $$ HC1
  icases HC1 with ⟨#Ht1, #Hf1, HC1⟩
  ihave Hf := (held_split (mid := 4096) (by omega) (by omega)).1 $$ Hf
  icases Hf with ⟨HfR, HfL⟩
  iapply (last (bar_core m K hx (by omega) hn hn' hw)) $$ [Hw Hc Hat HfR HfL]
  · isplitr; · iexact Henv
    isplitl [Hw]; · iexact Hw
    isplitl [Hc]; · iexact Hc
    isplitl [Hat]; · iexact Hat
    isplitr; · iexact Hpast
    rw [hg1, hg0]
    unfold grant
    isplitl [HfR]
    · isplitl [HfR]; · iexists f; iexact HfR
      isplitr; · iexact Ht0
      iexact Ht1
    · isplitl [HfL]; · iexists f; iexact HfL
      isplitr; · iexact Hf0
      iexact Hf1
  iintro %_ ⟨Hw, Hat, Hr, H0, H1⟩
  ihave H0 := (BIBase.Entails.trans (Entails.of_eq (pay_bar m hp)) (grant_room c false p)) $$ H0
  ihave H1 := (BIBase.Entails.trans (Entails.of_eq (pay_bar m hp)) (grant_room c true p)) $$ H1
  isplitl [Hw]; · iexact Hw
  isplitl [Hat]; · iexact Hat
  isplitl [Hr]; · iexact Hr
  isplitl [H0 H1]
  · iapply (rooms_of c p); isplitl [H1] <;> iassumption
  isplitl [HC0] <;> iassumption

end Cert.Gemm

end

end
-- ==== Proof.Sums.lean ====
/- How the running sums go from phase to phase: what is received and a device's own products make what it sends next, and after
   three additions what is sent is the result. -/
module

public import proofs.«01_k».proof.Proof.Turns

@[expose] public section

noncomputable section

namespace Cert.Gemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)

theorem far_round (k : ℕ) (c : Dev nD) (h : k % 4 = 0) : far k c = c := by
  apply Fin.ext; have : c.val < 4 := c.isLt; simp only [far]; omega
theorem far_mod {k k' : ℕ} (c : Dev nD) (h : k % 4 = k' % 4) : far k c = far k' c := by
  apply Fin.ext; simp only [far]; omega

theorem half_self {α : Type} (f : S1024x8192.Idx → α) : half f f = f := by
  funext i; unfold half; split <;> rfl

theorem tileOf_half {α : Type} (f g : S1024x8192.Idx → α) (j : Fin 8) : tileOf (half f g) j = if j.val < 4 then tileOf f j else tileOf g j := by
  funext i
  have hi : (i 1).val < 1024 := (i 1).isLt
  have e : (((tileR j).emb i) 1).val = 1024 * j.val + 1 * (i 1).val := rfl
  unfold tileOf half
  split
  · rw [if_pos (by omega)]
  · rw [if_neg (by omega)]

theorem cur_zero (c : Dev nD) : cur m 0 c = part m c c := by
  unfold cur
  rw [far_round (3 * 0) c rfl]
  exact half_self _

theorem tileOf_cmb (f g : Wide F) (j : Fin 8) : tileOf (cmb f g) j = k0_pay18 (tileOf f j) (tileOf g j) := tileOf_byTile _ j
theorem tileOf_cmbR (f g : Wide F) (j : Fin 8) : tileOf (cmbR f g) j = k0_pay32 (tileOf f j) (tileOf g j) := tileOf_byTile _ j

/-- One addition of a running sum. -/
theorem sumVia_succ {a b : ℕ} {c ch : Dev nD} {p : ℕ} (hp : p < 2) (hc : far (if p = 0 then a else 2) ch = c) (j : Fin 8) :
    tileOf (sumVia m a b ch (p + 1)) j = k0_pay18 (tileOf (sumVia m a b ch p) j) (tileOf (part m c ch) j) := by
  subst hc
  obtain rfl | rfl : p = 0 ∨ p = 1 := by omega
  · exact tileOf_cmb (sumVia m a b ch 0) (part m (far a ch) ch) j
  · exact tileOf_cmb (sumVia m a b ch 1) (part m (far 2 ch) ch) j
theorem sumVia_three {a b : ℕ} {c ch : Dev nD} (hc : far b ch = c) (j : Fin 8) :
    tileOf (sumVia m a b ch 3) j = k0_pay32 (tileOf (sumVia m a b ch 2) j) (tileOf (part m c ch) j) := by
  subst hc
  exact tileOf_cmbR (sumVia m a b ch 2) (part m (far b ch) ch) j

/-- What is sent next is what was received and the device's own products. -/
theorem cur_succ {c : Dev nD} {p : ℕ} (hp : p < 2) (j : Fin 8) :
    tileOf (cur m (p + 1) c) j = k0_pay18 (tileOf (got m p c) j) (tileOf (own m p c) j) := by
  unfold cur got own
  rw [tileOf_half, tileOf_half, tileOf_half]
  split
  · refine sumVia_succ m hp ?_ j
    rw [far_far]; refine far_round _ _ ?_
    obtain rfl | rfl : p = 0 ∨ p = 1 := by omega
    · rfl
    · rfl
  · refine sumVia_succ m hp ?_ j
    rw [far_far]; refine far_round _ _ ?_
    obtain rfl | rfl : p = 0 ∨ p = 1 := by omega
    · rfl
    · rfl
theorem cur_three {c : Dev nD} (j : Fin 8) : tileOf (cur m 3 c) j = k0_pay32 (tileOf (got m 2 c) j) (tileOf (own m 2 c) j) := by
  unfold cur got own
  rw [tileOf_half, tileOf_half, tileOf_half]
  split
  · refine sumVia_three m ?_ j
    rw [far_far]; exact far_round _ _ rfl
  · refine sumVia_three m ?_ j
    rw [far_far]; exact far_round _ _ rfl

/-- After the third addition a device sends on what it has received. -/
theorem got_cur (c : Dev nD) (p : ℕ) (hp : 3 ≤ p) : got m p c = cur m (p + 1) c := by
  obtain ⟨q, rfl⟩ : ∃ q, p = q + 3 := ⟨p - 3, by omega⟩
  rfl

/-- What is sent in the last three phases is the result: a row chunk in each half. -/
theorem cur_fin {c cl cr : Dev nD} {p : ℕ} (hp : 3 ≤ p) (hl : far (3 * p) c = cl) (hr : far p c = cr) (i : S1024x8192.Idx) :
    ((i 1).val < 4096 → cur m p c i = fin m cl i) ∧ (4096 ≤ (i 1).val → cur m p c i = fin m cr i) := by
  obtain ⟨q, rfl⟩ : ∃ q, p = q + 3 := ⟨p - 3, by omega⟩
  subst hl hr
  unfold cur fin half
  refine ⟨fun h => ?_, fun h => ?_⟩
  · rw [if_pos h, if_pos h]; rfl
  · rw [if_neg (by omega), if_neg (by omega)]; rfl

omit [FloatOps F] in
/-- Two halves filled. -/
theorem fill_half {α : Type} (f g h : S1024x8192.Idx → α) : fill (fill f g 0 4) h 4 4 = half g h := by
  funext i
  have hi := col_lt i
  unfold fill half
  by_cases h4 : (i 1).val < 4096
  · rw [if_neg (by omega), if_pos (by omega), if_pos h4]
  · rw [if_pos (by omega), if_neg h4]
theorem fill_all {α : Type} (f g : S1024x8192.Idx → α) : fill f g 0 8 = g := by
  funext i
  have hi := col_lt i
  unfold fill
  rw [if_pos (by omega)]

/-! ## Pieces and wholes -/

omit [FloatOps F] in
/-- The four quarters of a buffer. -/
theorem mine_whole {b : BufId} {c : Dev nD} {p : ℕ} {q} {f : Wide F} (hp : p ≠ 4) :
    (held b c 0 8192 q f : sProp 𝕄) ⊣⊢ iprop(mine b c false p q f ∗ mine b c true p q f) := by
  have e : ∀ d k, hi d k p = lo d k + 2048 := fun d k => by unfold hi; rw [if_neg (fun h => hp h.2)]
  unfold mine
  rw [e, e, e, e]
  constructor
  · iintro H
    ihave H := (held_split (mid := 4096) (by decide) (by decide)).1 $$ H
    icases H with ⟨H0, H1⟩
    ihave H0 := (held_split (mid := 2048) (by decide) (by decide)).1 $$ H0
    ihave H1 := (held_split (mid := 6144) (by decide) (by decide)).1 $$ H1
    icases H0 with ⟨H00, H01⟩
    icases H1 with ⟨H10, H11⟩
    isplitl [H00 H10]
    · isplitl [H00]; · iexact H00
      iexact H10
    · isplitl [H01]; · iexact H01
      iexact H11
  · iintro ⟨⟨H00, H10⟩, ⟨H01, H11⟩⟩
    iapply (held_split (mid := 4096) (by decide) (by decide)).2
    isplitl [H00 H01]
    · iapply (held_split (mid := 2048) (by decide) (by decide)).2
      isplitl [H00]; · iexact H00
      iexact H01
    · iapply (held_split (mid := 6144) (by decide) (by decide)).2
      isplitl [H10]; · iexact H10
      iexact H11
omit [FloatOps F] in
/-- The two halves. -/
theorem mine_whole4 {b : BufId} {c : Dev nD} {q} {f : Wide F} : (held b c 0 8192 q f : sProp 𝕄) ⊣⊢ mine b c false 4 q f :=
  held_split (b := b) (c := c) (lo := 0) (mid := 4096) (hi := 8192) (q := q) (f := f) (by decide) (by decide)

/-- The kept share of what is on its way, whole: in the phases with four pieces, -/
theorem flights_open {c : Dev nD} {p : ℕ} {b : BufId} (hp : p ≠ 4) (hb : srcB p = b) : iprop(flight m c false p ∗ flight m c true p)
    ⊢ iprop(held b c 0 8192 kept (cur m p c) ∗ (held b c 0 8192 kept (cur m p c) -∗ flight m c false p ∗ flight m c true p)) := by
  subst hb
  unfold flight
  iintro ⟨⟨H0, HR0⟩, ⟨H1, HR1⟩⟩
  isplitl [H0 H1]
  · iapply (mine_whole hp).2; isplitl [H0] <;> iassumption
  · iintro H
    ihave H := (mine_whole hp).1 $$ H
    icases H with ⟨H0, H1⟩
    isplitl [H0 HR0]
    · isplitl [H0] <;> iassumption
    · isplitl [H1] <;> iassumption
/-- and in the one with two. -/
theorem flight_open4 {c : Dev nD} {b : BufId} (hb : srcB 4 = b) : flight m c false 4
    ⊢ iprop(held b c 0 8192 kept (cur m 4 c) ∗ (held b c 0 8192 kept (cur m 4 c) -∗ flight m c false 4)) := by
  subst hb
  unfold flight
  iintro ⟨H0, HR0⟩
  isplitl [H0]
  · iapply mine_whole4.2; iexact H0
  · iintro H
    ihave H := mine_whole4.1 $$ H
    isplitl [H] <;> iassumption

omit [FloatOps F] in
theorem held_filled {b : BufId} {c : Dev nD} {l h a n : ℕ} {q} {f V : Wide F} (h₁ : 1024 * a ≤ l) (h₂ : h ≤ 1024 * (a + n)) :
    (held b c l h q (fill f V a n) : sProp 𝕄) ⊢ held b c l h q V := by rw [held_fill h₁ h₂]

/-! ## Loops in pairs -/

theorem mul_pair {c ch : Dev nD} {N p : ℕ} {k : Bool} (hp : p ≠ 4) (b : BufId) {l l' : Scf.Loop 32} {ok ok'} {ow ob ow' ob'} {hw hb hp' hw' hb' hp''} {f : Wide F}
    (hn : l.trips = 2) (hn' : l'.trips = 2) (how : ∀ i, ow i = ![0, 1024 * (lo true k / 1024 + i.val)]) (hob : ∀ i, ob i = ![0, 1024 * (lo true k / 1024 + i.val)])
    (how' : ∀ i, ow' i = ![0, 1024 * (lo false k / 1024 + i.val)]) (hob' : ∀ i, ob' i = ![0, 1024 * (lo false k / 1024 + i.val)]) :
    iprop(levAts L lv ∗ Wk m c N (k0_pay3 (xblk m c ch)) ∗ mine b c k p fullShare f)
      ⊢ WP c (mulL b l ok ow ob hw hb hp' >>= fun _ => mulL b l' ok' ow' ob' hw' hb' hp'') fun _ => iprop(Wk m c N (k0_pay3 (xblk m c ch)) ∗ mine b c k p fullShare (part m c ch)) := by
  have e : ∀ d, hi d k p = lo d k + 2048 := fun d => by unfold hi; rw [if_neg (fun h => hp h.2)]
  have e1 : ∀ d, 1024 * (lo d k / 1024) = lo d k ∧ lo d k ≤ 6144 := fun d => by cases d <;> cases k <;> decide
  have e0 := e1 false
  have e1 := e1 true
  unfold mine
  rw [e, e]
  iintro ⟨#Hlev, Hw, Ht, Hf⟩
  iapply (step (mulL_spec m b (lo := lo true k) (hi := lo true k + 2048) (ok := ok) (hw := hw) (hb := hb) (hp := hp') hn (by omega) (by omega) (by omega) how hob)) $$ [Hw Ht]
  · isplitr; · iexact Hlev
    isplitl [Hw] <;> iassumption
  iintro %_ ⟨Hw, Ht⟩
  iapply (last (mulL_spec m b (lo := lo false k) (hi := lo false k + 2048) (ok := ok') (hw := hw') (hb := hb') (hp := hp'') hn' (by omega) (by omega) (by omega) how' hob')) $$ [Hw Hf]
  · isplitr; · iexact Hlev
    isplitl [Hw] <;> iassumption
  iintro %_ ⟨Hw, Hf⟩
  isplitl [Hw]; · iexact Hw
  isplitl [Ht]
  · iapply (held_filled (by omega) (by omega)) $$ Ht
  · iapply (held_filled (by omega) (by omega)) $$ Hf

theorem add_pair {c : Dev nD} {p : ℕ} {k : Bool} (hp : p ≠ 4) {fn : Tile F → Tile F → Tile F} (b : BufId) {l l' : Scf.Loop 32} {ok ok'} {ob ob'} {hb hp' hb' hp''} {f g V : Wide F}
    (hV : ∀ j, tileOf V j = fn (tileOf f j) (tileOf g j)) (hn : l.trips = 2) (hn' : l'.trips = 2)
    (hob : ∀ i, ob i = ![0, 1024 * (lo true k / 1024 + i.val)]) (hob' : ∀ i, ob' i = ![0, 1024 * (lo false k / 1024 + i.val)]) :
    iprop(mine b c k p fullShare f ∗ held .P c 0 8192 fullShare g)
      ⊢ WP c (addL fn b l ok ob hb hp' >>= fun _ => addL fn b l' ok' ob' hb' hp'') fun _ => iprop(mine b c k p fullShare V ∗ held .P c 0 8192 fullShare g) := by
  have e : ∀ d, hi d k p = lo d k + 2048 := fun d => by unfold hi; rw [if_neg (fun h => hp h.2)]
  have e1 : ∀ d, 1024 * (lo d k / 1024) = lo d k ∧ lo d k ≤ 6144 := fun d => by cases d <;> cases k <;> decide
  have e0 := e1 false
  have e1 := e1 true
  unfold mine
  rw [e, e]
  iintro ⟨⟨Ht, Hf⟩, HP⟩
  iapply (step (addL_spec fn b (lo := lo true k) (hi := lo true k + 2048) (ok := ok) (hb := hb) (hp := hp') hV hn (by omega) (by omega) (by omega) hob)) $$ [HP Ht]
  · isplitl [Ht] <;> iassumption
  iintro %_ ⟨Ht, HP⟩
  iapply (last (addL_spec fn b (lo := lo false k) (hi := lo false k + 2048) (ok := ok') (hb := hb') (hp := hp'') hV hn' (by omega) (by omega) (by omega) hob')) $$ [HP Hf]
  · isplitl [Hf] <;> iassumption
  iintro %_ ⟨Hf, HP⟩
  isplitr [HP]
  · isplitl [Ht]
    · iapply (held_filled (by omega) (by omega)) $$ Ht
    · iapply (held_filled (by omega) (by omega)) $$ Hf
  · iexact HP

/-- Storing both halves of a buffer with a row chunk of the result in each. -/
theorem out_pair {c cl cr : Dev nD} {N : ℕ} {X : Tile F} (b : BufId) {l l' : Scf.Loop 32} {ok ok'} {ob oo ob' oo'} {hb ho hb' ho'} {q} {f : Wide F} {D : Dev nD → ℕ → Prop}
    (hf : ∀ i, ((i 1).val < 4096 → f i = fin m cl i) ∧ (4096 ≤ (i 1).val → f i = fin m cr i)) (hn : l.trips = 4) (hn' : l'.trips = 4)
    (hob : ∀ i, ob i = ![0, 1024 * (0 + i.val)]) (hoo : ∀ i, oo i = ![1024 * cl.val, 1024 * (0 + i.val)])
    (hob' : ∀ i, ob' i = ![0, 1024 * (4 + i.val)]) (hoo' : ∀ i, oo' i = ![1024 * cr.val, 1024 * (4 + i.val)]) :
    iprop(levAts L lv ∗ Wk m c N X ∗ held b c 0 8192 q f ∗ outs m c D)
      ⊢ WP c (outL b l ok ob oo hb ho >>= fun _ => outL b l' ok' ob' oo' hb' ho') fun _ => iprop(Wk m c N X ∗ held b c 0 8192 q f ∗ outs m c (more (more D cl 0 4) cr 4 4)) := by
  iintro ⟨#Hlev, Hw, Hb, Ho⟩
  iapply (step (outL_spec m b (lo := 0) (hi := 8192) (ok := ok) (hb := hb) (ho := ho) (fun i h h' => (hf i).1 (by omega)) hn (by omega) (by omega) (by omega) hob hoo)) $$ [Hw Hb Ho]
  · isplitr; · iexact Hlev
    isplitl [Hw]; · iexact Hw
    isplitl [Hb] <;> iassumption
  iintro %_ ⟨Hw, Hb, Ho⟩
  iapply (last (outL_spec m b (lo := 0) (hi := 8192) (ok := ok') (hb := hb') (ho := ho') (fun i h h' => (hf i).2 (by omega)) hn' (by omega) (by omega) (by omega) hob' hoo')) $$ [Hw Hb Ho]
  · isplitr; · iexact Hlev
    isplitl [Hw]; · iexact Hw
    isplitl [Hb] <;> iassumption
  iintro %_ H; iexact H

/-- Storing the two pieces `k`. -/
theorem out_pieces {c cl cr : Dev nD} {N p : ℕ} {k : Bool} (hp : p ≠ 4) {X : Tile F} (b : BufId) {l l' : Scf.Loop 32} {ok ok'} {ob oo ob' oo'} {hb ho hb' ho'} {q} {f : Wide F} {D : Dev nD → ℕ → Prop}
    (hf : ∀ i, ((i 1).val < 4096 → f i = fin m cl i) ∧ (4096 ≤ (i 1).val → f i = fin m cr i)) (hn : l.trips = 2) (hn' : l'.trips = 2)
    (hob : ∀ i, ob i = ![0, 1024 * (lo true k / 1024 + i.val)]) (hoo : ∀ i, oo i = ![1024 * cl.val, 1024 * (lo true k / 1024 + i.val)])
    (hob' : ∀ i, ob' i = ![0, 1024 * (lo false k / 1024 + i.val)]) (hoo' : ∀ i, oo' i = ![1024 * cr.val, 1024 * (lo false k / 1024 + i.val)]) :
    iprop(levAts L lv ∗ Wk m c N X ∗ mine b c k p q f ∗ outs m c D)
      ⊢ WP c (outL b l ok ob oo hb ho >>= fun _ => outL b l' ok' ob' oo' hb' ho') fun _ => iprop(Wk m c N X ∗ mine b c k p q f ∗ outs m c (more (more D cl (lo true k / 1024) 2) cr (lo false k / 1024) 2)) := by
  have e : ∀ d, hi d k p = lo d k + 2048 := fun d => by unfold hi; rw [if_neg (fun h => hp h.2)]
  have e1 : ∀ d, 1024 * (lo d k / 1024) = lo d k ∧ lo d k ≤ 6144 := fun d => by cases d <;> cases k <;> decide
  have e2 : lo true k ≤ 2048 ∧ 4096 ≤ lo false k := by cases k <;> decide
  have e0 := e1 false
  have e1 := e1 true
  unfold mine
  rw [e, e]
  iintro ⟨#Hlev, Hw, ⟨Ht, Hf⟩, Ho⟩
  iapply (step (outL_spec m b (lo := lo true k) (hi := lo true k + 2048) (ok := ok) (hb := hb) (ho := ho) (fun i h h' => (hf i).1 (by omega)) hn (by omega) (by omega) (by omega) hob hoo)) $$ [Hw Ht Ho]
  · isplitr; · iexact Hlev
    isplitl [Hw]; · iexact Hw
    isplitl [Ht] <;> iassumption
  iintro %_ ⟨Hw, Ht, Ho⟩
  iapply (last (outL_spec m b (lo := lo false k) (hi := lo false k + 2048) (ok := ok') (hb := hb') (ho := ho') (fun i h h' => (hf i).2 (by omega)) hn' (by omega) (by omega) (by omega) hob' hoo')) $$ [Hw Hf Ho]
  · isplitr; · iexact Hlev
    isplitl [Hw]; · iexact Hw
    isplitl [Hf] <;> iassumption
  iintro %_ ⟨Hw, Hf, Ho⟩
  isplitl [Hw]; · iexact Hw
  isplitr [Ho]
  · isplitl [Ht] <;> iassumption
  · iexact Ho

end Cert.Gemm

end

end
-- ==== Proof.Phase.lean ====
/- What a device holds between phases, and how every phase begins and ends. -/
module

public import proofs.«01_k».proof.Proof.Sums

@[expose] public section

noncomputable section

namespace Cert.Gemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (K : Dev nD × Cid → ℕ)

theorem same {P Q : sProp 𝕄} (h : P = Q) : P ⊢ Q := BIBase.Entails.of_eq h

/-- Three steps at the head of a program. -/
theorem step3 {c : Dev nD} {α β γ δ : Type} {p : PT F α} {p' : PT F β} {p'' : PT F γ} {k : γ → PT F δ} {P R : sProp 𝕄} {Q : δ → sProp 𝕄}
    (h : P ⊢ WP c (p >>= fun _ => p' >>= fun _ => p'') fun _ => R) : P ⊢ iprop((∀ a, R -∗ WP c (k a) Q) -∗ WP c (p >>= fun _ => p' >>= fun _ => p'' >>= k) Q) := by
  have h' := step2 (p := p) (p' := p' >>= fun _ => p'') (k := k) (Q := Q) h
  simp only [bind_assoc] at h'
  exact h'

/-- The payments from phase `p` on. -/
def rest (p : ℕ) : List Pmt := (List.range' p (7 - p)).flatMap phase

theorem rest_succ {p : ℕ} (hp : p < 7) : rest p = phase p ++ rest (p + 1) := by
  have : p = 0 ∨ p = 1 ∨ p = 2 ∨ p = 3 ∨ p = 4 ∨ p = 5 ∨ p = 6 := by omega
  rcases this with rfl | rfl | rfl | rfl | rfl | rfl | rfl <;> rfl

omit [FloatOps F] in
/-- The credit for a phase. -/
theorem crds_rest {c : Dev nD} {p : ℕ} (hp : p < 6) : (crds c (rest p) : sProp 𝕄) ⊢ iprop(bcrd c p ∗ crd c false p ∗ (if p = 4 then iprop(emp) else crd c true p) ∗ crds c (rest (p + 1))) := by
  rw [rest_succ (by omega)]
  unfold phase bcrd crd
  rw [if_pos hp]
  by_cases h4 : p = 4
  · rw [if_neg (fun h => h.2 h4), if_pos h4]
    simp only [List.cons_append, List.nil_append, List.append_nil, crds]
    iintro ⟨H1, H2, H3, H4, H⟩
    isplitl [H1 H2]; · isplitl [H1]; · iexact H1
                       iexact H2
    isplitl [H3 H4]; · isplitl [H3]; · iexact H3
                       iexact H4
    isplitr; · iempintro
    iexact H
  · rw [if_pos ⟨hp, h4⟩, if_neg h4]
    simp only [List.cons_append, List.nil_append, List.append_nil, crds]
    iintro ⟨H1, H2, H3, H4, H5, H6, H⟩
    isplitl [H1 H2]; · isplitl [H1]; · iexact H1
                       iexact H2
    isplitl [H3 H4]; · isplitl [H3]; · iexact H3
                       iexact H4
    isplitl [H5 H6]; · isplitl [H5]; · iexact H5
                       iexact H6
    iexact H

/-- A device between phases: phase `p` is next, and the next payment is number `n`. -/
def St (c : Dev nD) (p n : ℕ) (X : Tile F) : sProp 𝕄 :=
  iprop(Wk m c n X ∗ Bar c p ∗ Ch c false (rd false p) ∗ Ch c true (rd true p) ∗ crds c (rest p))

/-- After the barrier of phase `p`. -/
def Nx (c : Dev nD) (p : ℕ) : sProp 𝕄 :=
  iprop(atPos ER (cell c barC) (p + 1) ∅ 0 ∗ reached ER (cell c barC) (p + 1) ∗ crds c (rest (p + 1)))

/-- What sending the two pieces `k` takes besides the data. -/
def Ready (c : Dev nD) (k : Bool) (p : ℕ) : sProp 𝕄 := iprop(room (F := F) c k p ∗ Ch c k (rd k p) ∗ crd c k p)

/-- The signals and the wait at the start of a phase with four pieces, -/
theorem open_spec {c dv dv' : Dev nD} {n p : ℕ} {X : Tile F} (hp : p < 6) (h4 : p ≠ 4) (hx : plan.drop n = .sgl false p :: .sgl true p :: plan.drop (n + 2))
    (hn : dv = nbr false c) (hn' : dv' = nbr true c) (hw : ∀ x ∈ plan.drop (n + 2), 2 * p + 1 < x.lev) :
    iprop(Env m K ∗ St m c p n X ∗ ∃ f, held (dstB p) c 0 8192 fullShare f)
      ⊢ WP c (sigP dv >>= fun _ => sigP dv' >>= fun _ => barP) fun _ => iprop(Wk m c (n + 2) X ∗ Nx c p ∗ Ready c false p ∗ Ready c true p) := by
  have hR : (rooms c p : sProp 𝕄) ⊢ iprop(room c false p ∗ room c true p) := by unfold rooms; rw [if_neg h4]
  have hC := crds_rest (F := F) (c := c) hp
  rw [if_neg h4] at hC
  unfold St Nx Ready
  iintro ⟨#Henv, ⟨Hw, Hb, H0, H1, Hc⟩, Hd⟩
  ihave Hc := hC $$ Hc
  icases Hc with ⟨Hbc, Hc0, Hc1, Hc⟩
  iapply (last (bar3 m K hx hp hn hn' hw)) $$ [Hw Hbc Hb H0 H1 Hd]
  · isplitr; · iexact Henv
    isplitl [Hw]; · iexact Hw
    isplitl [Hbc]; · iexact Hbc
    isplitl [Hb]; · iexact Hb
    isplitl [H0]; · iexact H0
    isplitl [H1] <;> iassumption
  iintro %_ ⟨Hw, Hat, Hr, Hrm, H0, H1⟩
  ihave Hrm := hR $$ Hrm
  icases Hrm with ⟨Hr0, Hr1⟩
  isplitl [Hw]; · iexact Hw
  isplitl [Hat Hr Hc]
  · isplitl [Hat]; · iexact Hat
    isplitl [Hr] <;> iassumption
  isplitl [Hr0 H0 Hc0]
  · isplitl [Hr0]; · iexact Hr0
    isplitl [H0] <;> iassumption
  · isplitl [Hr1]; · iexact Hr1
    isplitl [H1] <;> iassumption

/-- and of the phase with two. -/
theorem open_spec4 {c dv dv' : Dev nD} {n : ℕ} {X : Tile F} (hx : plan.drop n = .sgl false 4 :: .sgl true 4 :: plan.drop (n + 2))
    (hn : dv = nbr false c) (hn' : dv' = nbr true c) (hw : ∀ x ∈ plan.drop (n + 2), 2 * 4 + 1 < x.lev) :
    iprop(Env m K ∗ St m c 4 n X ∗ ∃ f, held (dstB 4) c 0 8192 fullShare f)
      ⊢ WP c (sigP dv >>= fun _ => sigP dv' >>= fun _ => barP) fun _ => iprop(Wk m c (n + 2) X ∗ Nx c 4 ∗ Ready c false 4 ∗ Ch c true (rd true 4)) := by
  have hR : (rooms c 4 : sProp 𝕄) ⊢ iprop(room c false 4 ∗ emp) := by unfold rooms; rw [if_pos rfl]
  have hC := crds_rest (F := F) (c := c) (p := 4) (by decide)
  rw [if_pos rfl] at hC
  unfold St Nx Ready
  iintro ⟨#Henv, ⟨Hw, Hb, H0, H1, Hc⟩, Hd⟩
  ihave Hc := hC $$ Hc
  icases Hc with ⟨Hbc, Hc0, -, Hc⟩
  iapply (last (bar3 m K hx (by decide) hn hn' hw)) $$ [Hw Hbc Hb H0 H1 Hd]
  · isplitr; · iexact Henv
    isplitl [Hw]; · iexact Hw
    isplitl [Hbc]; · iexact Hbc
    isplitl [Hb]; · iexact Hb
    isplitl [H0]; · iexact H0
    isplitl [H1] <;> iassumption
  iintro %_ ⟨Hw, Hat, Hr, Hrm, H0, H1⟩
  ihave Hrm := hR $$ Hrm
  icases Hrm with ⟨Hr0, -⟩
  isplitl [Hw]; · iexact Hw
  isplitl [Hat Hr Hc]
  · isplitl [Hat]; · iexact Hat
    isplitl [Hr] <;> iassumption
  isplitl [Hr0 H0 Hc0]
  · isplitl [Hr0]; · iexact Hr0
    isplitl [H0] <;> iassumption
  · iexact H1

/-- Sending the two pieces `k`. -/
theorem send_pair {c dv dv' : Dev nD} {n p : ℕ} {k : Bool} {X : Tile F} (hs : Sent k p) (hx : plan.drop n = .xf true k p :: .xf false k p :: plan.drop (n + 2))
    (hn : dv = nbr true c) (hn' : dv' = nbr false c) :
    iprop(Env m K ∗ Wk m c n X ∗ mine (srcB p) c k p fullShare (cur m p c) ∗ Ready c k p ∗ Nx c p)
      ⊢ WP c (sendP true k p dv >>= fun _ => sendP false k p dv') fun _ => iprop(Wk m c (n + 2) X ∗ flight m c k p ∗ Nx c p) := by
  unfold Ready Nx
  iintro ⟨#Henv, Hw, Hm, ⟨Hr, Hch, Hcr⟩, Hat, #Hb, Hc⟩
  iapply (last (send2 m K hx hs hn hn')) $$ [Hw Hm Hr Hch Hcr]
  · isplitr; · iexact Henv
    isplitl [Hw]; · iexact Hw
    isplitl [Hm]; · iexact Hm
    isplitl [Hr]; · iexact Hr
    isplitl [Hch]; · iexact Hch
    isplitl [Hcr]; · iexact Hcr
    iexact Hb
  iintro %_ ⟨Hw, Hf⟩
  isplitl [Hw]; · iexact Hw
  isplitl [Hf]; · iexact Hf
  isplitl [Hat]; · iexact Hat
  isplitr; · iexact Hb
  iexact Hc

/-- The two pieces `k` sent and arrived. -/
def Home (c : Dev nD) (k : Bool) (p : ℕ) : sProp 𝕄 :=
  iprop(mine (srcB p) c k p fullShare (cur m p c) ∗ mine (dstB p) c k p fullShare (got m p c) ∗ past c (p + 1) ∗ Ch c k (rd k p + 1))

theorem end_pair {c : Dev nD} {n p : ℕ} {k : Bool} {X : Tile F} (hs : Sent k p) (hw : ∀ x ∈ plan.drop n, 2 * p + 2 < x.lev) :
    iprop(Env m K ∗ Wk m c n X ∗ flight m c k p) ⊢ WP c (endP true k p >>= fun _ => endP false k p) fun _ => iprop(Wk m c n X ∗ Home m c k p) :=
  end2 m K hs hw

/-- The end of a phase. -/
theorem close_spec {c : Dev nD} {n p r r' : ℕ} {X : Tile F} (hr : r = rd false (p + 1)) (hr' : r' = rd true (p + 1)) :
    iprop(Wk m c n X ∗ Nx c p ∗ past c (p + 1) ∗ Ch c false r ∗ Ch c true r') ⊢ St m c (p + 1) n X := by
  subst hr hr'
  unfold St Nx Bar
  iintro ⟨Hw, ⟨Hat, -, Hc⟩, Hp, H0, H1⟩
  isplitl [Hw]; · iexact Hw
  isplitl [Hat Hp]; · isplitl [Hat] <;> iassumption
  isplitl [H0]; · iexact H0
  isplitl [H1] <;> iassumption

end Cert.Gemm

end

end
-- ==== Proof.Phases.lean ====
/- The seven phases of the kernel. -/
module

public import proofs.«01_k».proof.Proof.Phase
public import proofs.«01_k».proof.Proof.Parts

@[expose] public section

noncomputable section

namespace Cert.Gemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (K : Dev nD × Cid → ℕ)

/-! ## Where the rows of the first operand and of the result lie -/

theorem rows0 : ∀ c : Dev nD, k0_off1 c = ![1024 * c.val, 0] := k0_off1_eq
theorem rows1 : ∀ c : Dev nD, k0_off10 c 1#32 = ![1024 * (far 1 c).val, 0] := by decide +kernel
theorem rows2 : ∀ c : Dev nD, k0_off10 c 2#32 = ![1024 * (far 2 c).val, 0] := by decide +kernel
theorem rows3 : ∀ c : Dev nD, k0_off10 c 3#32 = ![1024 * (far 3 c).val, 0] := by decide +kernel

theorem outs19 : ∀ (c : Dev nD) i, k0_off31 c i = ![1024 * (far 1 c).val, 1024 * (0 + i.val)] := by decide +kernel
theorem outs20 : ∀ (c : Dev nD) i, k0_off33 c i = ![1024 * (far 3 c).val, 1024 * (4 + i.val)] := by decide +kernel
theorem outs21 : ∀ (c : Dev nD) i, k0_off35 c i = ![1024 * c.val, 1024 * (0 + i.val)] := by decide +kernel
theorem outs22 : ∀ (c : Dev nD) i, k0_off37 c i = ![1024 * c.val, 1024 * (4 + i.val)] := by decide +kernel
theorem outs23 : ∀ (c : Dev nD) i, k0_off39 c i = ![1024 * (far 3 c).val, 1024 * (0 + i.val)] := by decide +kernel
theorem outs24 : ∀ (c : Dev nD) i, k0_off41 c i = ![1024 * (far 1 c).val, 1024 * (4 + i.val)] := by decide +kernel
theorem outs25 : ∀ (c : Dev nD) i, k0_off43 c i = ![1024 * (far 2 c).val, 1024 * (lo true false / 1024 + i.val)] := by decide +kernel
theorem outs26 : ∀ (c : Dev nD) i, k0_off45 c i = ![1024 * (far 2 c).val, 1024 * (lo false false / 1024 + i.val)] := by decide +kernel
theorem outs27 : ∀ (c : Dev nD) i, k0_off47 c i = ![1024 * (far 2 c).val, 1024 * (lo true true / 1024 + i.val)] := by decide +kernel
theorem outs28 : ∀ (c : Dev nD) i, k0_off49 c i = ![1024 * (far 2 c).val, 1024 * (lo false true / 1024 + i.val)] := by decide +kernel

theorem own_one (c : Dev nD) : own m 1 c = part m c (far 2 c) := by
  unfold own
  rw [far_mod (k := 3 * (1 + 1)) (k' := 2) c rfl]
  exact half_self _
theorem own_two (c : Dev nD) : own m 2 c = half (part m c (far 1 c)) (part m c (far 3 c)) := by
  unfold own
  rw [far_mod (k := 3 * (2 + 1)) (k' := 1) c rfl]
theorem fin_three (c : Dev nD) (i : S1024x8192.Idx) : ((i 1).val < 4096 → cur m 3 c i = fin m (far 1 c) i) ∧ (4096 ≤ (i 1).val → cur m 3 c i = fin m (far 3 c) i) :=
  cur_fin m (p := 3) (cl := far 1 c) (cr := far 3 c) (by decide) (far_mod (k := 3 * 3) (k' := 1) c rfl) rfl i
theorem fin_four (c : Dev nD) (i : S1024x8192.Idx) : ((i 1).val < 4096 → cur m 4 c i = fin m c i) ∧ (4096 ≤ (i 1).val → cur m 4 c i = fin m c i) :=
  cur_fin m (p := 4) (cl := c) (cr := c) (by decide) (far_round (3 * 4) c rfl) (far_round 4 c rfl) i
theorem fin_five (c : Dev nD) (i : S1024x8192.Idx) : ((i 1).val < 4096 → cur m 5 c i = fin m (far 3 c) i) ∧ (4096 ≤ (i 1).val → cur m 5 c i = fin m (far 1 c) i) :=
  cur_fin m (p := 5) (cl := far 3 c) (cr := far 1 c) (by decide) (far_mod (k := 3 * 5) (k' := 3) c rfl) (far_mod (k := 5) (k' := 1) c rfl) i
theorem fin_six (c : Dev nD) (i : S1024x8192.Idx) : ((i 1).val < 4096 → got m 5 c i = fin m (far 2 c) i) ∧ (4096 ≤ (i 1).val → got m 5 c i = fin m (far 2 c) i) := by
  rw [got_cur m c 5 (by decide)]
  exact cur_fin m (p := 5 + 1) (cl := far 2 c) (cr := far 2 c) (by decide) (far_mod (k := 3 * (5 + 1)) (k' := 2) c rfl) (far_mod (k := 5 + 1) (k' := 2) c rfl) i

/-- Phase 0: the first products are made and sent, those for the next device are made, and the sum of two is ready. -/
theorem ph0_spec {c : Dev nD} {X : Tile F} :
    iprop(Env m K ∗ St m c 0 0 X ∗ (∃ f, held .A c 0 8192 fullShare f) ∗ (∃ f, held .B c 0 8192 fullShare f) ∗ ∃ f, held .P c 0 8192 fullShare f)
      ⊢ WP c (ph0 c) fun _ => iprop(∃ X', St m c 1 6 X' ∗ held .B c 0 8192 fullShare (cur m 1 c) ∗ (∃ f, held .A c 0 8192 fullShare f) ∗ ∃ f, held .P c 0 8192 fullShare f) := by
  unfold ph0 lp1 lp2 lp3 lp4 lp5 lp6 lp7
  iintro ⟨#Henv, HS, ⟨%fA, HA⟩, HB, %fP, HP⟩
  ihave #Hlev := (Env_lev m K) $$ Henv
  iapply (step3 (open_spec m K (n := 0) (p := 0) (by decide) (by decide) rfl (Fin.ext (k0_dev1_eq c)) (Fin.ext (k0_dev2_eq c)) (by decide))) $$ [HS HB]
  · isplitr; · iexact Henv
    isplitl [HS]; · iexact HS
    iexact HB
  iintro %_ ⟨Hw, Hx, H0, H1⟩
  iapply (step (x_spec m (ch := c) (rows0 c))) $$ [Hw]
  · isplitr; · iexact Hlev
    iexact Hw
  iintro %_ Hw
  ihave HA := (mine_whole (p := 0) (by decide)).1 $$ HA
  icases HA with ⟨HA0, HA1⟩
  iapply (step2 (mul_pair m (p := 0) (k := false) (by decide) .A rfl rfl (by decide +kernel) (by decide +kernel) (by decide +kernel) (by decide +kernel))) $$ [Hw HA0]
  · isplitr; · iexact Hlev
    isplitl [Hw] <;> iassumption
  iintro %_ ⟨Hw, HA0⟩
  iapply (step2 (send_pair m K (n := 2) (p := 0) (k := false) (by unfold Sent; decide) rfl (Fin.ext (k0_dev3_eq c)) (Fin.ext (k0_dev4_eq c)))) $$ [Hw HA0 H0 Hx]
  · isplitr; · iexact Henv
    isplitl [Hw]; · iexact Hw
    isplitl [HA0]; · iapply (same (by rw [cur_zero]; rfl)) $$ HA0
    isplitl [H0] <;> iassumption
  iintro %_ ⟨Hw, H0, Hx⟩
  iapply (step2 (mul_pair m (p := 0) (k := true) (by decide) .A rfl rfl (by decide +kernel) (by decide +kernel) (by decide +kernel) (by decide +kernel))) $$ [Hw HA1]
  · isplitr; · iexact Hlev
    isplitl [Hw] <;> iassumption
  iintro %_ ⟨Hw, HA1⟩
  iapply (step2 (send_pair m K (n := 4) (p := 0) (k := true) (by unfold Sent; decide) rfl (Fin.ext (k0_dev5_eq c)) (Fin.ext (k0_dev6_eq c)))) $$ [Hw HA1 H1 Hx]
  · isplitr; · iexact Henv
    isplitl [Hw]; · iexact Hw
    isplitl [HA1]; · iapply (same (by rw [cur_zero]; rfl)) $$ HA1
    isplitl [H1] <;> iassumption
  iintro %_ ⟨Hw, H1, Hx⟩
  iapply (step (x_spec m (ch := far 3 c) (rows3 c))) $$ [Hw]
  · isplitr; · iexact Hlev
    iexact Hw
  iintro %_ Hw
  iapply (step (mulL_spec m .P (a := 0) (n := 4) (lo := 0) (hi := 8192) rfl (by decide) (by decide) (by decide) (by decide +kernel) (by decide +kernel))) $$ [Hw HP]
  · isplitr; · iexact Hlev
    isplitl [Hw] <;> iassumption
  iintro %_ ⟨Hw, HP⟩
  iapply (step (x_spec m (ch := far 1 c) (rows1 c))) $$ [Hw]
  · isplitr; · iexact Hlev
    iexact Hw
  iintro %_ Hw
  iapply (step (mulL_spec m .P (a := 4) (n := 4) (lo := 0) (hi := 8192) rfl (by decide) (by decide) (by decide) (by decide +kernel) (by decide +kernel))) $$ [Hw HP]
  · isplitr; · iexact Hlev
    isplitl [Hw] <;> iassumption
  iintro %_ ⟨Hw, HP⟩
  iapply (step2 (end_pair m K (n := 6) (p := 0) (k := false) (by unfold Sent; decide) (by decide))) $$ [Hw H0]
  · isplitr; · iexact Henv
    isplitl [Hw] <;> iassumption
  iintro %_ ⟨Hw, H0⟩
  iapply (step2 (end_pair m K (n := 6) (p := 0) (k := true) (by unfold Sent; decide) (by decide))) $$ [Hw H1]
  · isplitr; · iexact Henv
    isplitl [Hw] <;> iassumption
  iintro %_ ⟨Hw, H1⟩
  unfold Home
  icases H0 with ⟨HA0, HB0, Hp, HC0⟩
  icases H1 with ⟨HA1, HB1, -, HC1⟩
  iapply (last (addL_spec k0_pay18 .B (a := 0) (n := 8) (lo := 0) (hi := 8192) (f := got m 0 c) (g := own m 0 c) (cur_succ m (c := c) (p := 0) (by decide)) rfl (by decide) (by decide) (by decide) (by decide +kernel))) $$ [HB0 HB1 HP]
  · isplitl [HB0 HB1]
    · iapply (mine_whole (p := 0) (by decide)).2
      isplitl [HB0]; · iexact HB0
      iexact HB1
    · iapply (same (by rw [fill_half]; rfl)) $$ HP
  iintro %_ ⟨HB, HP⟩
  iexists _
  isplitl [Hw Hx Hp HC0 HC1]
  · iapply (close_spec m (c := c) (n := 6) (p := 0) (r := rd false 0 + 1) (r' := rd true 0 + 1) rfl rfl)
    isplitl [Hw]; · iexact Hw
    isplitl [Hx]; · iexact Hx
    isplitl [Hp]; · iexact Hp
    isplitl [HC0] <;> iassumption
  isplitl [HB]; · iapply (held_filled (by decide) (by decide)) $$ HB
  isplitl [HA0 HA1]
  · iexists _; iapply (mine_whole (p := 0) (by decide)).2
    isplitl [HA0]; · iexact HA0
    iexact HA1
  · iexists _; iexact HP

/-- Phase 1: the sums of two are passed on, and those of three made. -/
theorem ph1_spec {c : Dev nD} {X : Tile F} :
    iprop(Env m K ∗ St m c 1 6 X ∗ held .B c 0 8192 fullShare (cur m 1 c) ∗ (∃ f, held .A c 0 8192 fullShare f) ∗ ∃ f, held .P c 0 8192 fullShare f)
      ⊢ WP c (ph1 c) fun _ => iprop(∃ X', St m c 2 12 X' ∗ held .A c 0 8192 fullShare (cur m 2 c) ∗ (∃ f, held .B c 0 8192 fullShare f) ∗ ∃ f, held .P c 0 8192 fullShare f) := by
  unfold ph1 lp8 lp9 lp10 lp11 lp12
  iintro ⟨#Henv, HS, HB, HA, %fP, HP⟩
  ihave #Hlev := (Env_lev m K) $$ Henv
  iapply (step3 (open_spec m K (n := 6) (p := 1) (by decide) (by decide) rfl (Fin.ext (k0_dev7_eq c)) (Fin.ext (k0_dev8_eq c)) (by decide))) $$ [HS HA]
  · isplitr; · iexact Henv
    isplitl [HS]; · iexact HS
    iexact HA
  iintro %_ ⟨Hw, Hx, H0, H1⟩
  ihave HB := (mine_whole (p := 1) (by decide)).1 $$ HB
  icases HB with ⟨HB0, HB1⟩
  iapply (step2 (send_pair m K (n := 8) (p := 1) (k := false) (by unfold Sent; decide) rfl (Fin.ext (k0_dev9_eq c)) (Fin.ext (k0_dev10_eq c)))) $$ [Hw HB0 H0 Hx]
  · isplitr; · iexact Henv
    isplitl [Hw]; · iexact Hw
    isplitl [HB0]; · iexact HB0
    isplitl [H0]; · iexact H0
    iexact Hx
  iintro %_ ⟨Hw, H0, Hx⟩
  iapply (step2 (send_pair m K (n := 10) (p := 1) (k := true) (by unfold Sent; decide) rfl (Fin.ext (k0_dev11_eq c)) (Fin.ext (k0_dev12_eq c)))) $$ [Hw HB1 H1 Hx]
  · isplitr; · iexact Henv
    isplitl [Hw]; · iexact Hw
    isplitl [HB1]; · iexact HB1
    isplitl [H1]; · iexact H1
    iexact Hx
  iintro %_ ⟨Hw, H1, Hx⟩
  iapply (step (x_spec m (ch := far 2 c) (rows2 c))) $$ [Hw]
  · isplitr; · iexact Hlev
    iexact Hw
  iintro %_ Hw
  iapply (step (mulL_spec m .P (a := 0) (n := 8) (lo := 0) (hi := 8192) rfl (by decide) (by decide) (by decide) (by decide +kernel) (by decide +kernel))) $$ [Hw HP]
  · isplitr; · iexact Hlev
    isplitl [Hw]; · iexact Hw
    iexact HP
  iintro %_ ⟨Hw, HP⟩
  ihave HP := (same (Q := held .P c 0 8192 fullShare (own m 1 c)) (by rw [fill_all, own_one])) $$ HP
  iapply (step2 (end_pair m K (n := 12) (p := 1) (k := false) (by unfold Sent; decide) (by decide))) $$ [Hw H0]
  · isplitr; · iexact Henv
    isplitl [Hw]; · iexact Hw
    iexact H0
  iintro %_ ⟨Hw, H0⟩
  unfold Home
  icases H0 with ⟨HB0, HA0, Hp, HC0⟩
  iapply (step2 (add_pair (fn := k0_pay18) (p := 1) (k := false) (by decide) .A (f := got m 1 c) (g := own m 1 c) (V := cur m 2 c) (cur_succ m (c := c) (p := 1) (by decide)) rfl rfl (by decide +kernel) (by decide +kernel))) $$ [HA0 HP]
  · isplitl [HA0]; · iexact HA0
    iexact HP
  iintro %_ ⟨HA0, HP⟩
  iapply (step2 (end_pair m K (n := 12) (p := 1) (k := true) (by unfold Sent; decide) (by decide))) $$ [Hw H1]
  · isplitr; · iexact Henv
    isplitl [Hw]; · iexact Hw
    iexact H1
  iintro %_ ⟨Hw, H1⟩
  unfold Home
  icases H1 with ⟨HB1, HA1, -, HC1⟩
  iapply (last (add_pair (fn := k0_pay18) (p := 1) (k := true) (by decide) .A (f := got m 1 c) (g := own m 1 c) (V := cur m 2 c) (cur_succ m (c := c) (p := 1) (by decide)) rfl rfl (by decide +kernel) (by decide +kernel))) $$ [HA1 HP]
  · isplitl [HA1]; · iexact HA1
    iexact HP
  iintro %_ ⟨HA1, HP⟩
  iexists _
  isplitl [Hw Hx Hp HC0 HC1]
  · iapply (close_spec m (c := c) (n := 12) (p := 1) (r := rd false 1 + 1) (r' := rd true 1 + 1) rfl rfl)
    isplitl [Hw]; · iexact Hw
    isplitl [Hx]; · iexact Hx
    isplitl [Hp]; · iexact Hp
    isplitl [HC0]; · iexact HC0
    iexact HC1
  isplitl [HA0 HA1]
  · iapply (mine_whole (p := 1) (by decide)).2
    isplitl [HA0]; · iexact HA0
    iexact HA1
  isplitl [HB0 HB1]
  · iexists _; iapply (mine_whole (p := 1) (by decide)).2
    isplitl [HB0]; · iexact HB0
    iexact HB1
  · iexists _; iexact HP

/-- Phase 2: the sums of three are passed on, and the left pieces of the result made. -/
theorem ph2_spec {c : Dev nD} {X : Tile F} :
    iprop(Env m K ∗ St m c 2 12 X ∗ held .A c 0 8192 fullShare (cur m 2 c) ∗ (∃ f, held .B c 0 8192 fullShare f) ∗ ∃ f, held .P c 0 8192 fullShare f)
      ⊢ WP c (ph2 c) fun _ => iprop(∃ X', St m c 3 18 X' ∗ (mine .B c false 2 fullShare (cur m 3 c) ∗ mine .B c true 2 fullShare (got m 2 c)) ∗ (∃ f, held .A c 0 8192 fullShare f)
          ∗ held .P c 0 8192 fullShare (own m 2 c)) := by
  unfold ph2 lp13 lp14 lp15 lp16
  iintro ⟨#Henv, HS, HA, HB, %fP, HP⟩
  ihave #Hlev := (Env_lev m K) $$ Henv
  iapply (step3 (open_spec m K (n := 12) (p := 2) (by decide) (by decide) rfl (Fin.ext (k0_dev13_eq c)) (Fin.ext (k0_dev14_eq c)) (by decide))) $$ [HS HB]
  · isplitr; · iexact Henv
    isplitl [HS]; · iexact HS
    iexact HB
  iintro %_ ⟨Hw, Hx, H0, H1⟩
  ihave HA := (mine_whole (p := 2) (by decide)).1 $$ HA
  icases HA with ⟨HA0, HA1⟩
  iapply (step2 (send_pair m K (n := 14) (p := 2) (k := false) (by unfold Sent; decide) rfl (Fin.ext (k0_dev15_eq c)) (Fin.ext (k0_dev16_eq c)))) $$ [Hw HA0 H0 Hx]
  · isplitr; · iexact Henv
    isplitl [Hw]; · iexact Hw
    isplitl [HA0]; · iexact HA0
    isplitl [H0]; · iexact H0
    iexact Hx
  iintro %_ ⟨Hw, H0, Hx⟩
  iapply (step2 (send_pair m K (n := 16) (p := 2) (k := true) (by unfold Sent; decide) rfl (Fin.ext (k0_dev17_eq c)) (Fin.ext (k0_dev18_eq c)))) $$ [Hw HA1 H1 Hx]
  · isplitr; · iexact Henv
    isplitl [Hw]; · iexact Hw
    isplitl [HA1]; · iexact HA1
    isplitl [H1]; · iexact H1
    iexact Hx
  iintro %_ ⟨Hw, H1, Hx⟩
  iapply (step (x_spec m (ch := far 1 c) (rows1 c))) $$ [Hw]
  · isplitr; · iexact Hlev
    iexact Hw
  iintro %_ Hw
  iapply (step (mulL_spec m .P (a := 0) (n := 4) (lo := 0) (hi := 8192) rfl (by decide) (by decide) (by decide) (by decide +kernel) (by decide +kernel))) $$ [Hw HP]
  · isplitr; · iexact Hlev
    isplitl [Hw]; · iexact Hw
    iexact HP
  iintro %_ ⟨Hw, HP⟩
  iapply (step (x_spec m (ch := far 3 c) (rows3 c))) $$ [Hw]
  · isplitr; · iexact Hlev
    iexact Hw
  iintro %_ Hw
  iapply (step (mulL_spec m .P (a := 4) (n := 4) (lo := 0) (hi := 8192) rfl (by decide) (by decide) (by decide) (by decide +kernel) (by decide +kernel))) $$ [Hw HP]
  · isplitr; · iexact Hlev
    isplitl [Hw]; · iexact Hw
    iexact HP
  iintro %_ ⟨Hw, HP⟩
  ihave HP := (same (Q := held .P c 0 8192 fullShare (own m 2 c)) (by rw [fill_half, own_two])) $$ HP
  iapply (step2 (end_pair m K (n := 18) (p := 2) (k := false) (by unfold Sent; decide) (by decide))) $$ [Hw H0]
  · isplitr; · iexact Henv
    isplitl [Hw]; · iexact Hw
    iexact H0
  iintro %_ ⟨Hw, H0⟩
  unfold Home
  icases H0 with ⟨HA0, HB0, Hp, HC0⟩
  iapply (step2 (add_pair (fn := k0_pay32) (p := 2) (k := false) (by decide) .B (f := got m 2 c) (g := own m 2 c) (V := cur m 3 c) (cur_three m (c := c)) rfl rfl (by decide +kernel) (by decide +kernel))) $$ [HB0 HP]
  · isplitl [HB0]; · iexact HB0
    iexact HP
  iintro %_ ⟨HB0, HP⟩
  iapply (last (end_pair m K (n := 18) (p := 2) (k := true) (by unfold Sent; decide) (by decide))) $$ [Hw H1]
  · isplitr; · iexact Henv
    isplitl [Hw]; · iexact Hw
    iexact H1
  iintro %_ ⟨Hw, H1⟩
  unfold Home
  icases H1 with ⟨HA1, HB1, -, HC1⟩
  iexists _
  isplitl [Hw Hx Hp HC0 HC1]
  · iapply (close_spec m (c := c) (n := 18) (p := 2) (r := rd false 2 + 1) (r' := rd true 2 + 1) rfl rfl)
    isplitl [Hw]; · iexact Hw
    isplitl [Hx]; · iexact Hx
    isplitl [Hp]; · iexact Hp
    isplitl [HC0]; · iexact HC0
    iexact HC1
  isplitl [HB0 HB1]
  · isplitl [HB0]; · iexact HB0
    iexact HB1
  isplitl [HA0 HA1]
  · iexists _; iapply (mine_whole (p := 2) (by decide)).2
    isplitl [HA0]; · iexact HA0
    iexact HA1
  · iexact HP

/-- Phase 3: the finished pieces are passed on, the others finished, passed on, and the first two half chunks of the result stored. -/
theorem ph3_spec {c : Dev nD} {X : Tile F} {D : Dev nD → ℕ → Prop} :
    iprop(Env m K ∗ St m c 3 18 X ∗ (mine .B c false 2 fullShare (cur m 3 c) ∗ mine .B c true 2 fullShare (got m 2 c)) ∗ (∃ f, held .A c 0 8192 fullShare f)
          ∗ held .P c 0 8192 fullShare (own m 2 c) ∗ outs m c D)
      ⊢ WP c (ph3 c) fun _ => iprop(∃ X', St m c 4 24 X' ∗ held .A c 0 8192 fullShare (cur m 4 c) ∗ (∃ f, held .B c 0 8192 fullShare f) ∗ (∃ f, held .P c 0 8192 fullShare f)
          ∗ outs m c (more (more D (far 1 c) 0 4) (far 3 c) 4 4)) := by
  unfold ph3 lp17 lp18 lp19 lp20
  iintro ⟨#Henv, HS, ⟨HB0, HB1⟩, HA, HP, Ho⟩
  ihave #Hlev := (Env_lev m K) $$ Henv
  iapply (step3 (open_spec m K (n := 18) (p := 3) (by decide) (by decide) rfl (Fin.ext (k0_dev19_eq c)) (Fin.ext (k0_dev20_eq c)) (by decide))) $$ [HS HA]
  · isplitr; · iexact Henv
    isplitl [HS]; · iexact HS
    iexact HA
  iintro %_ ⟨Hw, Hx, H0, H1⟩
  iapply (step2 (send_pair m K (n := 20) (p := 3) (k := false) (by unfold Sent; decide) rfl (Fin.ext (k0_dev21_eq c)) (Fin.ext (k0_dev22_eq c)))) $$ [Hw HB0 H0 Hx]
  · isplitr; · iexact Henv
    isplitl [Hw]; · iexact Hw
    isplitl [HB0]; · iexact HB0
    isplitl [H0]; · iexact H0
    iexact Hx
  iintro %_ ⟨Hw, H0, Hx⟩
  iapply (step2 (add_pair (fn := k0_pay32) (p := 2) (k := true) (by decide) .B (f := got m 2 c) (g := own m 2 c) (V := cur m 3 c) (cur_three m (c := c)) rfl rfl (by decide +kernel) (by decide +kernel))) $$ [HB1 HP]
  · isplitl [HB1]; · iexact HB1
    iexact HP
  iintro %_ ⟨HB1, HP⟩
  iapply (step2 (send_pair m K (n := 22) (p := 3) (k := true) (by unfold Sent; decide) rfl (Fin.ext (k0_dev23_eq c)) (Fin.ext (k0_dev24_eq c)))) $$ [Hw HB1 H1 Hx]
  · isplitr; · iexact Henv
    isplitl [Hw]; · iexact Hw
    isplitl [HB1]; · iexact HB1
    isplitl [H1]; · iexact H1
    iexact Hx
  iintro %_ ⟨Hw, H1, Hx⟩
  ihave HF := (flights_open m (c := c) (p := 3) (b := .B) (by decide) rfl) $$ [H0 H1]
  · isplitl [H0]; · iexact H0
    iexact H1
  icases HF with ⟨HB, HF⟩
  iapply (step2 (out_pair m .B (q := kept) (fin_three m c) rfl rfl (by decide +kernel) (outs19 c) (by decide +kernel) (outs20 c))) $$ [Hw HB Ho]
  · isplitr; · iexact Hlev
    isplitl [Hw]; · iexact Hw
    isplitl [HB]; · iexact HB
    iexact Ho
  iintro %_ ⟨Hw, HB, Ho⟩
  ihave HF := HF $$ HB
  icases HF with ⟨H0, H1⟩
  iapply (step2 (end_pair m K (n := 24) (p := 3) (k := false) (by unfold Sent; decide) (by decide))) $$ [Hw H0]
  · isplitr; · iexact Henv
    isplitl [Hw]; · iexact Hw
    iexact H0
  iintro %_ ⟨Hw, H0⟩
  iapply (last (end_pair m K (n := 24) (p := 3) (k := true) (by unfold Sent; decide) (by decide))) $$ [Hw H1]
  · isplitr; · iexact Henv
    isplitl [Hw]; · iexact Hw
    iexact H1
  iintro %_ ⟨Hw, H1⟩
  unfold Home
  icases H0 with ⟨HB0, HA0, Hp, HC0⟩
  icases H1 with ⟨HB1, HA1, -, HC1⟩
  iexists _
  isplitl [Hw Hx Hp HC0 HC1]
  · iapply (close_spec m (c := c) (n := 24) (p := 3) (r := rd false 3 + 1) (r' := rd true 3 + 1) rfl rfl)
    isplitl [Hw]; · iexact Hw
    isplitl [Hx]; · iexact Hx
    isplitl [Hp]; · iexact Hp
    isplitl [HC0]; · iexact HC0
    iexact HC1
  isplitl [HA0 HA1]
  · iapply (mine_whole (p := 3) (by decide)).2
    isplitl [HA0]; · iexact HA0
    iexact HA1
  isplitl [HB0 HB1]
  · iexists _; iapply (mine_whole (p := 3) (by decide)).2
    isplitl [HB0]; · iexact HB0
    iexact HB1
  isplitl [HP]
  · iexists _; iexact HP
  · iexact Ho

/-- Phase 4: whole halves are passed on, and the device's own chunk of the result stored. -/
theorem ph4_spec {c : Dev nD} {X : Tile F} {D : Dev nD → ℕ → Prop} :
    iprop(Env m K ∗ St m c 4 24 X ∗ held .A c 0 8192 fullShare (cur m 4 c) ∗ (∃ f, held .B c 0 8192 fullShare f) ∗ outs m c D)
      ⊢ WP c (ph4 c) fun _ => iprop(∃ X', St m c 5 28 X' ∗ held .B c 0 8192 fullShare (cur m 5 c) ∗ (∃ f, held .A c 0 8192 fullShare f)
          ∗ outs m c (more (more D c 0 4) c 4 4)) := by
  unfold ph4 lp21 lp22
  iintro ⟨#Henv, HS, HA, HB, Ho⟩
  ihave #Hlev := (Env_lev m K) $$ Henv
  iapply (step3 (open_spec4 m K (n := 24) rfl (Fin.ext (k0_dev25_eq c)) (Fin.ext (k0_dev26_eq c)) (by decide))) $$ [HS HB]
  · isplitr; · iexact Henv
    isplitl [HS]; · iexact HS
    iexact HB
  iintro %_ ⟨Hw, Hx, H0, HC1⟩
  ihave HA := mine_whole4.1 $$ HA
  iapply (step2 (send_pair m K (n := 26) (p := 4) (k := false) (by unfold Sent; decide) rfl (Fin.ext (k0_dev27_eq c)) (Fin.ext (k0_dev28_eq c)))) $$ [Hw HA H0 Hx]
  · isplitr; · iexact Henv
    isplitl [Hw]; · iexact Hw
    isplitl [HA]; · iexact HA
    isplitl [H0]; · iexact H0
    iexact Hx
  iintro %_ ⟨Hw, H0, Hx⟩
  ihave HF := (flight_open4 m (c := c) (b := .A) rfl) $$ H0
  icases HF with ⟨HA, HF⟩
  iapply (step2 (out_pair m .A (q := kept) (fin_four m c) rfl rfl (by decide +kernel) (outs21 c) (by decide +kernel) (outs22 c))) $$ [Hw HA Ho]
  · isplitr; · iexact Hlev
    isplitl [Hw]; · iexact Hw
    isplitl [HA]; · iexact HA
    iexact Ho
  iintro %_ ⟨Hw, HA, Ho⟩
  ihave H0 := HF $$ HA
  iapply (last (end_pair m K (n := 28) (p := 4) (k := false) (by unfold Sent; decide) (by decide))) $$ [Hw H0]
  · isplitr; · iexact Henv
    isplitl [Hw]; · iexact Hw
    iexact H0
  iintro %_ ⟨Hw, H0⟩
  unfold Home
  icases H0 with ⟨HA, HB, Hp, HC0⟩
  iexists _
  isplitl [Hw Hx Hp HC0 HC1]
  · iapply (close_spec m (c := c) (n := 28) (p := 4) (r := rd false 4 + 1) (r' := rd true 4) rfl rfl)
    isplitl [Hw]; · iexact Hw
    isplitl [Hx]; · iexact Hx
    isplitl [Hp]; · iexact Hp
    isplitl [HC0]; · iexact HC0
    iexact HC1
  isplitl [HB]
  · iapply mine_whole4.2; iexact HB
  isplitl [HA]
  · iexists _; iapply mine_whole4.2; iexact HA
  · iexact Ho

/-- Phase 5: everything is passed on for the last time, and the rest of the result stored. -/
theorem ph5_spec {c : Dev nD} {X : Tile F} {D : Dev nD → ℕ → Prop} :
    iprop(Env m K ∗ St m c 5 28 X ∗ held .B c 0 8192 fullShare (cur m 5 c) ∗ (∃ f, held .A c 0 8192 fullShare f) ∗ outs m c D)
      ⊢ WP c (ph5 c) fun _ => iprop(∃ X', St m c 6 34 X' ∗ (∃ f, held .A c 0 8192 fullShare f) ∗ (∃ f, held .B c 0 8192 fullShare f)
          ∗ outs m c (more (more (more (more (more (more D (far 3 c) 0 4) (far 1 c) 4 4) (far 2 c) 0 2) (far 2 c) 4 2) (far 2 c) 2 2) (far 2 c) 6 2)) := by
  unfold ph5 lp23 lp24 lp25 lp26 lp27 lp28
  iintro ⟨#Henv, HS, HB, HA, Ho⟩
  ihave #Hlev := (Env_lev m K) $$ Henv
  iapply (step3 (open_spec m K (n := 28) (p := 5) (by decide) (by decide) rfl (Fin.ext (k0_dev29_eq c)) (Fin.ext (k0_dev30_eq c)) (by decide))) $$ [HS HA]
  · isplitr; · iexact Henv
    isplitl [HS]; · iexact HS
    iexact HA
  iintro %_ ⟨Hw, Hx, H0, H1⟩
  ihave HB := (mine_whole (p := 5) (by decide)).1 $$ HB
  icases HB with ⟨HB0, HB1⟩
  iapply (step2 (send_pair m K (n := 30) (p := 5) (k := false) (by unfold Sent; decide) rfl (Fin.ext (k0_dev31_eq c)) (Fin.ext (k0_dev32_eq c)))) $$ [Hw HB0 H0 Hx]
  · isplitr; · iexact Henv
    isplitl [Hw]; · iexact Hw
    isplitl [HB0]; · iexact HB0
    isplitl [H0]; · iexact H0
    iexact Hx
  iintro %_ ⟨Hw, H0, Hx⟩
  iapply (step2 (send_pair m K (n := 32) (p := 5) (k := true) (by unfold Sent; decide) rfl (Fin.ext (k0_dev33_eq c)) (Fin.ext (k0_dev34_eq c)))) $$ [Hw HB1 H1 Hx]
  · isplitr; · iexact Henv
    isplitl [Hw]; · iexact Hw
    isplitl [HB1]; · iexact HB1
    isplitl [H1]; · iexact H1
    iexact Hx
  iintro %_ ⟨Hw, H1, Hx⟩
  ihave HF := (flights_open m (c := c) (p := 5) (b := .B) (by decide) rfl) $$ [H0 H1]
  · isplitl [H0]; · iexact H0
    iexact H1
  icases HF with ⟨HB, HF⟩
  iapply (step2 (out_pair m .B (q := kept) (fin_five m c) rfl rfl (by decide +kernel) (outs23 c) (by decide +kernel) (outs24 c))) $$ [Hw HB Ho]
  · isplitr; · iexact Hlev
    isplitl [Hw]; · iexact Hw
    isplitl [HB]; · iexact HB
    iexact Ho
  iintro %_ ⟨Hw, HB, Ho⟩
  ihave HF := HF $$ HB
  icases HF with ⟨H0, H1⟩
  iapply (step2 (end_pair m K (n := 34) (p := 5) (k := false) (by unfold Sent; decide) (by decide))) $$ [Hw H0]
  · isplitr; · iexact Henv
    isplitl [Hw]; · iexact Hw
    iexact H0
  iintro %_ ⟨Hw, H0⟩
  unfold Home
  icases H0 with ⟨HB0, HA0, Hp, HC0⟩
  iapply (step2 (out_pieces m (p := 5) (k := false) (by decide) .A (q := fullShare) (fin_six m c) rfl rfl (by decide +kernel) (outs25 c) (by decide +kernel) (outs26 c))) $$ [Hw HA0 Ho]
  · isplitr; · iexact Hlev
    isplitl [Hw]; · iexact Hw
    isplitl [HA0]; · iexact HA0
    iexact Ho
  iintro %_ ⟨Hw, HA0, Ho⟩
  iapply (step2 (end_pair m K (n := 34) (p := 5) (k := true) (by unfold Sent; decide) (by decide))) $$ [Hw H1]
  · isplitr; · iexact Henv
    isplitl [Hw]; · iexact Hw
    iexact H1
  iintro %_ ⟨Hw, H1⟩
  unfold Home
  icases H1 with ⟨HB1, HA1, -, HC1⟩
  iapply (last (out_pieces m (p := 5) (k := true) (by decide) .A (q := fullShare) (fin_six m c) rfl rfl (by decide +kernel) (outs27 c) (by decide +kernel) (outs28 c))) $$ [Hw HA1 Ho]
  · isplitr; · iexact Hlev
    isplitl [Hw]; · iexact Hw
    isplitl [HA1]; · iexact HA1
    iexact Ho
  iintro %_ ⟨Hw, HA1, Ho⟩
  iexists _
  isplitl [Hw Hx Hp HC0 HC1]
  · iapply (close_spec m (c := c) (n := 34) (p := 5) (r := rd false 5 + 1) (r' := rd true 5 + 1) rfl rfl)
    isplitl [Hw]; · iexact Hw
    isplitl [Hx]; · iexact Hx
    isplitl [Hp]; · iexact Hp
    isplitl [HC0]; · iexact HC0
    iexact HC1
  isplitl [HA0 HA1]
  · iexists _; iapply (mine_whole (p := 5) (by decide)).2
    isplitl [HA0]; · iexact HA0
    iexact HA1
  isplitl [HB0 HB1]
  · iexists _; iapply (mine_whole (p := 5) (by decide)).2
    isplitl [HB0]; · iexact HB0
    iexact HB1
  · iexact Ho

/-- Phase 6: the last barrier. -/
theorem ph6_spec {c : Dev nD} {X : Tile F} :
    iprop(Env m K ∗ St m c 6 34 X) ⊢ WP c (ph6 c) fun _ => iprop(Wk m c 36 X ∗ atPos ER (cell c barC) 7 ∅ 0 ∗ Ch c false 6 ∗ Ch c true 5) := by
  have hC : (crds c (rest 6) : sProp 𝕄) ⊢ bcrd c 6 := by
    rw [rest_succ (by decide)]
    unfold phase bcrd
    rw [if_neg (by decide), if_neg (by decide)]
    simp only [List.cons_append, List.nil_append, List.append_nil, crds]
    iintro ⟨H1, H2, -⟩
    isplitl [H1]; · iexact H1
    iexact H2
  unfold ph6 St Bar
  iintro ⟨#Henv, Hw, ⟨Hb, Hp⟩, H0, H1, Hc⟩
  ihave Hc := hC $$ Hc
  iapply (last (bar_core m K (n := 34) (p := 6) (l := plan.drop 36) rfl (by decide) (Fin.ext (k0_dev35_eq c)) (Fin.ext (k0_dev36_eq c)) (by decide))) $$ [Hw Hc Hb Hp]
  · isplitr; · iexact Henv
    isplitl [Hw]; · iexact Hw
    isplitl [Hc]; · iexact Hc
    isplitl [Hb]; · iexact Hb
    isplitl [Hp]; · iexact Hp
    isplitr
    · iapply (same (pay_last m).symm); iempintro
    · iapply (same (pay_last m).symm); iempintro
  iintro %_ ⟨Hw, Hb, -⟩
  isplitl [Hw]; · iexact Hw
  isplitl [Hb]; · iexact Hb
  isplitl [H0]; · iexact H0
  iexact H1

end Cert.Gemm

end

end
-- ==== Proof.Body.lean ====
/- The whole kernel on one device: its phases in order, and its cells closed at the end. -/
module

public import proofs.«01_k».proof.Proof.Phases
public import Idealize.ShloMosaic.Lib.Pipeline.Kit

@[expose] public section

noncomputable section

namespace Cert.Gemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (K : Dev nD × Cid → ℕ)

/-- All of a wide buffer. -/
def loose (b : BufId) (c : Dev nD) : sProp 𝕄 := iprop(∃ f : Wide F, held b c 0 8192 fullShare f)

/-- What has been stored after all phases. -/
def allOuts (c : Dev nD) : Dev nD → ℕ → Prop :=
  more (more (more (more (more (more (more (more (more (more (fun _ _ => False) (far 1 c) 0 4) (far 3 c) 4 4) c 0 4) c 4 4) (far 3 c) 0 4) (far 1 c) 4 4)
    (far 2 c) 0 2) (far 2 c) 4 2) (far 2 c) 2 2) (far 2 c) 6 2

/-- It is everything. -/
theorem allOuts_all (c : Dev nD) (ch : Dev nD) (j : Fin 8) : allOuts c ch j.val := by
  have h : ∀ c ch : Dev nD, ch = c ∨ ch = far 1 c ∨ ch = far 2 c ∨ ch = far 3 c := by decide
  have hj := j.isLt
  unfold allOuts more
  rcases h c ch with h | h | h | h <;> simp only [h, true_and, false_or] <;> omega

theorem outs_all (c : Dev nD) {D : Dev nD → ℕ → Prop} (h : D = allOuts c) : outs m c D ⊢ oPts c (res m) := by
  subst h
  unfold outs
  iintro ⟨%f, %hf, H⟩
  have e : f = res m := funext fun i => hf i (allOuts_all c _ _)
  subst e
  iexact H

omit [FloatOps F] in
theorem outs_none (c : Dev nD) [FloatOps F] (f : S4096x8192.Idx → Elt F .f32) : oPts c f ⊢ outs m c fun _ _ => False := by
  unfold outs
  iintro H
  iexists f
  isplitr
  · ipureintro; exact fun _ h => h.elim
  · iexact H

/-- A cell past its last round is at rest. -/
theorem close_cell {c : Dev nD} {x : Cid} {r : ℕ} (h : nrounds x ≤ r) :
    iprop(Env m K ∗ atPos ER (cell c x) r ∅ 0) ⊢ |={Set.univ}=> (semVal (cell c x) 0 : sProp 𝕄) := by
  iintro ⟨#Henv, Hat⟩
  ihave #Hc := (Env_cell m K c x) $$ Henv
  iapply (Rounds.cell_close ER (ringRd m) (Set.mem_univ (K (c, x))) (fun h => h) (R := r) (duties_over m c x r h))
  isplitr; · iexact Hc
  iexact Hat

omit [FloatOps F] in
/-- The cells of a device, listed. -/
theorem bigSep_cids (Φ : Cid → sProp 𝕄) : bigSep Finset.univ Φ
    = iprop(Φ none ∗ Φ (some (false, true, false)) ∗ Φ (some (false, true, true)) ∗ Φ (some (false, false, false)) ∗ Φ (some (false, false, true))
      ∗ Φ (some (true, true, false)) ∗ Φ (some (true, true, true)) ∗ Φ (some (true, false, false)) ∗ Φ (some (true, false, true))) :=
  bigSep_univ_eq_bigSepL [none, some (false, true, false), some (false, true, true), some (false, false, false), some (false, false, true),
    some (true, true, false), some (true, true, true), some (true, false, false), some (true, false, true)] (by decide) (by decide) Φ

/-- A device's cells at rest. -/
def rested (c : Dev nD) : sProp 𝕄 := bigSep Finset.univ fun x : Cid => semVal (cell c x) 0

theorem close_all {c : Dev nD} : iprop(Env m K ∗ atPos ER (cell c barC) 7 ∅ 0 ∗ Ch c false 6 ∗ Ch c true 5) ⊢ |={Set.univ}=> (rested c : sProp 𝕄) := by
  unfold rested
  rw [bigSep_cids]
  unfold Ch ChD
  iintro ⟨#Henv, Hb, ⟨⟨H1, -, H2, -⟩, H3, -, H4, -⟩, ⟨H5, -, H6, -⟩, H7, -, H8, -⟩
  imod (close_cell m K (c := c) (x := none) (r := 7) (by decide)) $$ [Hb] with Hb
  · isplitr; · iexact Henv
    iexact Hb
  imod (close_cell m K (c := c) (x := some (false, true, false)) (r := 6) (by decide)) $$ [H1] with H1
  · isplitr; · iexact Henv
    iexact H1
  imod (close_cell m K (c := c) (x := some (true, true, false)) (r := 6) (by decide)) $$ [H2] with H2
  · isplitr; · iexact Henv
    iexact H2
  imod (close_cell m K (c := c) (x := some (false, false, false)) (r := 6) (by decide)) $$ [H3] with H3
  · isplitr; · iexact Henv
    iexact H3
  imod (close_cell m K (c := c) (x := some (true, false, false)) (r := 6) (by decide)) $$ [H4] with H4
  · isplitr; · iexact Henv
    iexact H4
  imod (close_cell m K (c := c) (x := some (false, true, true)) (r := 5) (by decide)) $$ [H5] with H5
  · isplitr; · iexact Henv
    iexact H5
  imod (close_cell m K (c := c) (x := some (true, true, true)) (r := 5) (by decide)) $$ [H6] with H6
  · isplitr; · iexact Henv
    iexact H6
  imod (close_cell m K (c := c) (x := some (false, false, true)) (r := 5) (by decide)) $$ [H7] with H7
  · isplitr; · iexact Henv
    iexact H7
  imod (close_cell m K (c := c) (x := some (true, false, true)) (r := 5) (by decide)) $$ [H8] with H8
  · isplitr; · iexact Henv
    iexact H8
  imodintro
  isplitl [Hb]; · iexact Hb
  isplitl [H1]; · iexact H1
  isplitl [H5]; · iexact H5
  isplitl [H3]; · iexact H3
  isplitl [H7]; · iexact H7
  isplitl [H2]; · iexact H2
  isplitl [H6]; · iexact H6
  isplitl [H4]; · iexact H4
  iexact H8

/-- What a device has at the end, its result among it. -/
def Done (c : Dev nD) : sProp 𝕄 :=
  iprop((∃ W : Waits sig ℕ, owes (c : Thread nD τ) 0 W)
    ∗ ((∃ f, stPts c f) ∗ (∃ f, xcPts c f) ∗ (∃ f, wcPts c f) ∗ loose .A c ∗ loose .B c ∗ loose .P c)
    ∗ (loc0 c ∗ rested c) ∗ xPts m c ∗ wPts m c ∗ oPts c (res m))

/-- The phases in order. -/
theorem phases_spec {c : Dev nD} {X : Tile F} :
    iprop(Env m K ∗ St m c 0 0 X ∗ loose .A c ∗ loose .B c ∗ loose .P c ∗ outs m c fun _ _ => False)
      ⊢ WP c (do ph0 c; ph1 c; ph2 c; ph3 c; ph4 c; ph5 c; ph6 c) fun _ => iprop(∃ X', Wk m c 36 X' ∗ rested c ∗ loose .A c ∗ loose .B c ∗ loose .P c ∗ oPts c (res m)) := by
  unfold loose
  iintro ⟨#Henv, HS, HA, HB, HP, Ho⟩
  iapply (step (ph0_spec m K (X := X))) $$ [HS HA HB HP]
  · isplitr; · iexact Henv
    isplitl [HS]; · iexact HS
    isplitl [HA]; · iexact HA
    isplitl [HB] <;> iassumption
  iintro %_ ⟨%X₁, HS, HB, HA, HP⟩
  iapply (step (ph1_spec m K (X := X₁))) $$ [HS HA HB HP]
  · isplitr; · iexact Henv
    isplitl [HS]; · iexact HS
    isplitl [HB]; · iexact HB
    isplitl [HA] <;> iassumption
  iintro %_ ⟨%X₂, HS, HA, HB, HP⟩
  iapply (step (ph2_spec m K (X := X₂))) $$ [HS HA HB HP]
  · isplitr; · iexact Henv
    isplitl [HS]; · iexact HS
    isplitl [HA]; · iexact HA
    isplitl [HB] <;> iassumption
  iintro %_ ⟨%X₃, HS, HB, HA, HP⟩
  iapply (step (ph3_spec m K (X := X₃))) $$ [HS HA HB HP Ho]
  · isplitr; · iexact Henv
    isplitl [HS]; · iexact HS
    isplitl [HB]; · iexact HB
    isplitl [HA]; · iexact HA
    isplitl [HP] <;> iassumption
  iintro %_ ⟨%X₄, HS, HA, HB, HP, Ho⟩
  iapply (step (ph4_spec m K (X := X₄))) $$ [HS HA HB Ho]
  · isplitr; · iexact Henv
    isplitl [HS]; · iexact HS
    isplitl [HA]; · iexact HA
    isplitl [HB] <;> iassumption
  iintro %_ ⟨%X₅, HS, HB, HA, Ho⟩
  iapply (step (ph5_spec m K (X := X₅))) $$ [HS HA HB Ho]
  · isplitr; · iexact Henv
    isplitl [HS]; · iexact HS
    isplitl [HB]; · iexact HB
    isplitl [HA] <;> iassumption
  iintro %_ ⟨%X₆, HS, HA, HB, Ho⟩
  ihave Ho := (outs_all m c (by rfl)) $$ Ho
  iapply (wp_fupd _)
  iapply (last (ph6_spec m K (X := X₆))) $$ [HS]
  · isplitr; · iexact Henv
    iexact HS
  iintro %_ ⟨Hw, Hb, H0, H1⟩
  imod (close_all m K (c := c)) $$ [Hb H0 H1] with Hz
  · isplitr; · iexact Henv
    isplitl [Hb]; · iexact Hb
    isplitl [H0] <;> iassumption
  imodintro
  iexists X₆
  isplitl [Hw]; · iexact Hw
  isplitl [Hz]; · iexact Hz
  isplitl [HA]; · iexact HA
  isplitl [HB]; · iexact HB
  isplitl [HP] <;> iassumption

/-- The kernel. -/
theorem body_spec {c : Dev nD} {X : Tile F} :
    iprop(Env m K ∗ St m c 0 0 X ∗ loose .A c ∗ loose .B c ∗ loose .P c ∗ outs m c fun _ _ => False) ⊢ WP c (onBufs (cc0_body (F := F))) fun _ => Done m c := by
  rw [body_eq]
  simp only [Prog.lift, Prog.bind_op, Prog.bind_ret, wp_deviceId]
  iintro H
  iapply (last (phases_spec m K (c := c) (X := X))) $$ H
  iintro %_ ⟨%X', Hw, Hz, HA, HB, HP, Ho⟩
  unfold Wk Pays Done
  icases Hw with ⟨⟨⟨%W, HO⟩, -⟩, Hs, Hwc, Hxc, Hx, HW, Hl⟩
  isplitl [HO]; · iexists W; iexact HO
  isplitl [Hs Hwc Hxc HA HB HP]
  · isplitl [Hs]; · iexact Hs
    isplitl [Hxc]; · iexists X'; iexact Hxc
    isplitl [Hwc]; · iexact Hwc
    isplitl [HA]; · iexact HA
    isplitl [HB] <;> iassumption
  isplitl [Hl Hz]; · isplitl [Hl] <;> iassumption
  isplitl [Hx]; · iexact Hx
  isplitl [HW] <;> iassumption

end Cert.Gemm

end

end
-- ==== Proof.Deal.lean ====
/- What the launch deals: the cells' invariants, every device's positions, the tokens each device pays with, and its credit. -/
module

public import proofs.«01_k».proof.Proof.Body
public import Idealize.ShloMosaic.Lib.Pipeline.Launch

@[expose] public section

noncomputable section

namespace Cert.Gemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)

/-! ## Tokens -/

/-- The tokens of a payment, at the device each belongs to. -/
def keysOf : Pmt → List (Cid × ℕ × Bool)
  | .sgl d p => [(barC, p, !d)]
  | .xf d k p => [(rcvC d k, rd k p, false), (sndC d k, rd k p, false)]
def keys : List (Cid × ℕ × Bool) := plan.flatMap keysOf

theorem keys_nodup : keys.Nodup := by decide +kernel

abbrev tokKey (c : Dev nD) (k : Cid × ℕ × Bool) : GSem nD τ sig × ℕ × Bool := (cell c k.1, k.2)
def tokOf (ci : Dev nD × Fin keys.length) : GSem nD τ sig × ℕ × Bool := tokKey ci.1 (keys.get ci.2)

theorem cell_inj {c c' : Dev nD} {x x' : Cid} (h : cell c x = cell c' x') : c = c' ∧ x = x' :=
  ⟨congrArg (fun g : GSem nD τ sig => g.1.1) h, csem_inj (congrArg Prod.snd h)⟩

theorem tokOf_inj : Function.Injective tokOf := by
  rintro ⟨c, i⟩ ⟨c', i'⟩ (h : tokKey c (keys.get i) = tokKey c' (keys.get i'))
  have h1 := cell_inj (congrArg Prod.fst h)
  have h2 : keys.get i = keys.get i' := Prod.ext h1.2 (congrArg (fun x : GSem nD τ sig × ℕ × Bool => x.2) h)
  exact Prod.ext h1.1 (List.nodup_iff_injective_get.mp keys_nodup h2)

def ringToks : Finset (GSem nD τ sig × ℕ × Bool) := Finset.univ.map ⟨tokOf, tokOf_inj⟩

theorem cells_inj : Function.Injective fun x : Dev nD × Cid => cell x.1 x.2 := fun _ _ h => Prod.ext (cell_inj h).1 (cell_inj h).2
def ringCells : Finset (GSem nD τ sig) := Finset.univ.map ⟨fun x : Dev nD × Cid => cell x.1 x.2, cells_inj⟩

/-- A separating conjunction along a list. -/
def sepL {A : Type} (Φ : A → sProp 𝕄) : List A → sProp 𝕄
  | [] => iprop(emp)
  | a :: l => iprop(Φ a ∗ sepL Φ l)

omit [FloatOps F] in
theorem bigSep_get {A : Type} (Φ : A → sProp 𝕄) : ∀ l : List A, (bigSep Finset.univ fun i : Fin l.length => Φ (l.get i)) = sepL Φ l
  | [] => by
    unfold sepL; exact BI.bigSep_empty
  | a :: l => by
    have e : (Finset.univ : Finset (Fin (a :: l).length)) = insert 0 (Finset.univ.map (Fin.succEmb _)) := by
      rw [← Finset.cons_eq_insert _ _ (by simp [Fin.succ_ne_zero])]; exact Fin.univ_succ _
    rw [e, BI.bigSep_insert (by simp [Fin.succ_ne_zero]), BI.bigSep_map]
    unfold sepL
    rw [← bigSep_get Φ l]
    rfl

def tokAt (c : Dev nD) (k : Cid × ℕ × Bool) : sProp 𝕄 := dutyTok ER (cell c k.1) k.2.1 k.2.2

/-- The tokens of a device's own cells, payment by payment. -/
def mint1 (c : Dev nD) : Pmt → sProp 𝕄
  | .sgl d p => tokAt c (barC, p, !d)
  | .xf d k p => iprop(tokAt c (rcvC d k, rd k p, false) ∗ tokAt c (sndC d k, rd k p, false))

omit [FloatOps F] in
theorem sepL_keys (c : Dev nD) : ∀ l : List Pmt, (sepL (tokAt c) (l.flatMap keysOf) : sProp 𝕄) ⊢ sepL (mint1 c) l
  | [] => BI.Entails.refl _
  | .sgl d p :: l => by
    show iprop(tokAt c (barC, p, !d) ∗ sepL (tokAt c) (l.flatMap keysOf)) ⊢ iprop(tokAt c (barC, p, !d) ∗ sepL (mint1 c) l)
    exact BIClass.sep_mono (BI.Entails.refl _) (sepL_keys c l)
  | .xf d k p :: l => by
    show iprop(tokAt c (rcvC d k, rd k p, false) ∗ tokAt c (sndC d k, rd k p, false) ∗ sepL (tokAt c) (l.flatMap keysOf))
      ⊢ iprop((tokAt c (rcvC d k, rd k p, false) ∗ tokAt c (sndC d k, rd k p, false)) ∗ sepL (mint1 c) l)
    iintro ⟨H1, H2, H3⟩
    isplitl [H1 H2]
    · isplitl [H1] <;> iassumption
    iapply (sepL_keys c l); iexact H3

/-- The devices, each taken to its neighbour. -/
def turn (d : Bool) : Dev nD ≃ Dev nD where
  toFun := nbr d
  invFun := nbr (!d)
  left_inv := nbr_nbr d
  right_inv c := by simpa using nbr_nbr (!d) c

omit [FloatOps F] in
/-- One payment's tokens, handed to the devices that make it. -/
theorem deal1 (x : Pmt) : (bigSep Finset.univ fun c : Dev nD => (mint1 c x : sProp 𝕄)) = bigSep Finset.univ fun c : Dev nD => tok c x := by
  rcases x with ⟨d, p⟩ | ⟨d, k, p⟩
  · exact bigSep_univ_equiv (turn d) (fun c : Dev nD => (mint1 c (.sgl d p) : sProp 𝕄))
  · unfold mint1 tok
    rw [bigSep_sep', bigSep_sep', bigSep_univ_equiv (turn d) (fun c : Dev nD => (tokAt c (rcvC d k, rd k p, false) : sProp 𝕄))]
    rfl

omit [FloatOps F] in
theorem deal : ∀ l : List Pmt, (bigSep Finset.univ fun c : Dev nD => (sepL (mint1 c) l : sProp 𝕄)) = bigSep Finset.univ fun c : Dev nD => toks c l
  | [] => rfl
  | x :: l => by
    unfold sepL toks
    rw [bigSep_sep', bigSep_sep', deal1 x, deal l]

/-! ## Credit -/

omit [FloatOps F] in
/-- What all devices owe a device is its credit. -/
theorem creds (c : Dev nD) : ∀ l : List Pmt, (Pipeline.launchCred (fun d => owed d l) c : sProp 𝕄) ⊢ crds c l
  | [] => Entails.of_eq (Pipeline.launchCred_zero c)
  | x :: l => by
    unfold owed crds
    rw [Pipeline.launchCred_add]
    iintro ⟨H1, H2⟩
    isplitl [H2]
    · iapply (Pipeline.launchCred_tallyAt (csem x.cid) (nbr x.dir) (nbr (!x.dir)) (turn x.dir).right_inv (turn x.dir).left_inv x.rnd x.am c)
      iexact H2
    · iapply (creds c l); iexact H1

/-! ## The launch element, and what each device gets of it -/

/-- A device's share of the launch element. -/
def G (c : Dev nD) : sProp 𝕄 :=
  iprop((bigSep Finset.univ fun x : Cid => roundState ER (ringRd m) (cell c x) 0)
    ∗ (bigSep Finset.univ fun x : Cid => iprop(atPos ER (cell c x) 0 ∅ 0 ∗ reached ER (cell c x) 0)) ∗ sepL (mint1 c) plan)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun x : Cid => Φ (cell c x) := by
    unfold ringCells; rw [BI.bigSep_map, bigSep_univ_prod]; rfl
  have hT : bigSep ringToks (fun x => (dutyTok ER x.1 x.2.1 x.2.2 : sProp 𝕄)) ⊢ bigSep Finset.univ fun c : Dev nD => sepL (mint1 c) plan := by
    unfold ringToks; rw [BI.bigSep_map, bigSep_univ_prod]
    refine bigSep_mono fun c _ => ?_
    exact BIBase.Entails.trans (Entails.of_eq (bigSep_get (tokAt c) keys)) (sepL_keys c plan)
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## Semaphores -/

/-- The kernel's own semaphores: the one of its local transfers, and the ring's but for the barrier. -/
def osem : Cid → SemLoc sig
  | none => .dma locS
  | some x => csem (some x)

theorem ownSemFacts : Pipeline.OwnSemFacts cfg0.spec osem := by decide

def others (c : Dev nD) : sProp 𝕄 := bigSep (Finset.univ.erase none) fun x : Cid => semVal (cell c x) 0

omit [FloatOps F] in
theorem ownSems0_eq (c : Dev nD) : (Pipeline.ownSems0 (Ix := ℕ) (Name := ℕ) (U := UU) (Lvl := ℕ) (Val := Elt F) (τ := τ) osem c : sProp 𝕄)
    = iprop(loc0 c ∗ others c) := by
  unfold Pipeline.ownSems0 others
  rw [bigSep_univ_at _ (none : Cid), bigSep_congr (s := Finset.univ.erase none) (Ψ := fun x : Cid => (semVal (cell c x) 0 : sProp 𝕄)) fun x hx => ?_]
  · rfl
  · rcases x with _ | x
    · exact absurd rfl (Finset.ne_of_mem_erase hx)
    · rfl
omit [FloatOps F] in
theorem unscopedSems0_eq (c : Dev nD) : (unscopedSems0 c : sProp 𝕄) = semVal (cell c barC) 0 := by
  unfold unscopedSems0; rw [bigSep_eq_bigSepL_of_eq [SemLoc.reg barS] (by decide) (by decide)]; rfl
omit [FloatOps F] in
theorem rested_eq (c : Dev nD) : (rested c : sProp 𝕄) = iprop(semVal (cell c barC) 0 ∗ others c) := bigSep_univ_at _ (none : Cid)

/-! ## The cells' invariants -/

/-- What all devices share: the cells' invariants, and that every cell is at round 0. -/
def records (K : Dev nD × Cid → ℕ) : sProp 𝕄 :=
  iprop(bigSep Finset.univ (fun x : Dev nD × Cid => cellInv ER (ringRd m) (K x) (cell x.1 x.2))
    ∗ bigSep Finset.univ fun x : Dev nD × Cid => reached ER (cell x.1 x.2) 0)
instance records_persistent (K : Dev nD × Cid → ℕ) : Persistent (records m K) := by unfold records; infer_instance

/-- What stays with a device. -/
def linear (c : Dev nD) : sProp 𝕄 := iprop((bigSep Finset.univ fun x : Cid => atPos ER (cell c x) 0 ∅ 0) ∗ toks c plan ∗ loc0 c)

/-- What a device has of the ring. -/
def G' (c : Dev nD) : sProp 𝕄 := iprop(∃ K : Dev nD × Cid → ℕ, bigSep Finset.univ (fun x : Dev nD × Cid => cellInv ER (ringRd m) (K x) (cell x.1 x.2))
  ∗ Bar c 0 ∗ Ch c false 0 ∗ Ch c true 0 ∗ toks c plan ∗ loc0 c)

theorem reached_at (c : Dev nD) (x : Cid) :
    (bigSep Finset.univ fun x : Dev nD × Cid => (reached ER (cell x.1 x.2) 0 : sProp 𝕄)) ⊢ reached ER (cell c x) 0 :=
  bigSep_elim (Finset.mem_univ (c, x))

theorem G'_intro (K : Dev nD × Cid → ℕ) (c : Dev nD) : iprop(records m K ∗ linear c) ⊢ G' m c := by
  unfold records linear G' Bar past Ch ChD
  rw [bigSep_cids]
  iintro ⟨⟨#HI, #HR⟩, ⟨Hb, H1, H5, H3, H7, H2, H6, H4, H8⟩, Ht, Hl⟩
  iexists K
  isplitr; · iexact HI
  isplitl [Hb]
  · isplitl [Hb]; · iexact Hb
    isplitr
    · iapply (reached_at (F := F) (nbr true c) none); iexact HR
    · iapply (reached_at (F := F) (nbr false c) none); iexact HR
  isplitl [H1 H2 H3 H4]
  · isplitl [H1 H2]
    · isplitl [H1]; · iexact H1
      isplitr; · iapply (reached_at (F := F) c (sndC true false)); iexact HR
      isplitl [H2]; · iexact H2
      iapply (reached_at (F := F) c (rcvC true false)); iexact HR
    · isplitl [H3]; · iexact H3
      isplitr; · iapply (reached_at (F := F) c (sndC false false)); iexact HR
      isplitl [H4]; · iexact H4
      iapply (reached_at (F := F) c (rcvC false false)); iexact HR
  isplitl [H5 H6 H7 H8]
  · isplitl [H5 H6]
    · isplitl [H5]; · iexact H5
      isplitr; · iapply (reached_at (F := F) c (sndC true true)); iexact HR
      isplitl [H6]; · iexact H6
      iapply (reached_at (F := F) c (rcvC true true)); iexact HR
    · isplitl [H7]; · iexact H7
      isplitr; · iapply (reached_at (F := F) c (sndC false true)); iexact HR
      isplitl [H8]; · iexact H8
      iapply (reached_at (F := F) c (rcvC false true)); iexact HR
  isplitl [Ht] <;> iassumption

/-- A device's cells allocated. -/
def Alloc (c : Dev nD) : sProp 𝕄 :=
  iprop((bigSep Finset.univ fun x : Cid => iprop(∃ κ : ℕ, cellInv ER (ringRd m) κ (cell c x)))
    ∗ ((bigSep Finset.univ fun x : Cid => atPos ER (cell c x) 0 ∅ 0) ∗ bigSep Finset.univ fun x : Cid => reached ER (cell c x) 0)
    ∗ sepL (mint1 c) plan ∗ loc0 c)

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> Alloc m c := by
  rw [ownSems0_eq, unscopedSems0_eq]
  unfold G Alloc
  rw [bigSep_sep']
  iintro ⟨⟨Hl, Ho⟩, Hb, Hst, Hat, Htok⟩
  imod (show iprop(rested c ∗ bigSep Finset.univ fun x : Cid => roundState ER (ringRd m) (cell c x) 0)
      ⊢ (|={Set.univ}=> bigSep Finset.univ fun x : Cid => iprop(∃ κ : ℕ, cellInv ER (ringRd m) κ (cell c x)) : sProp 𝕄) from by
        unfold rested
        rw [← bigSep_sep']
        exact BIBase.Entails.trans (bigSep_mono fun x _ => BIBase.Entails.trans (Rounds.body_intro ER (ringRd m) (cell c x)) inv_alloc) (bigSep_fupd _ _)) $$ [Hb Ho Hst] with Hinv
  · isplitl [Hb Ho]
    · iapply (same (rested_eq c).symm)
      isplitl [Hb] <;> iassumption
    · iexact Hst
  imodintro
  isplitl [Hinv]; · iexact Hinv
  isplitl [Hat]; · iexact Hat
  isplitl [Htok] <;> iassumption

theorem regroup : (bigSep Finset.univ fun c : Dev nD => (Alloc m c : sProp 𝕄)) ⊢ bigSep Finset.univ (G' m) := by
  unfold Alloc
  rw [bigSep_sep', bigSep_sep', bigSep_sep', bigSep_sep', ← bigSep_univ_prod (fun x : Dev nD × Cid => iprop(∃ κ : ℕ, cellInv ER (ringRd m) κ (cell x.1 x.2))),
    ← bigSep_univ_prod (fun x : Dev nD × Cid => (reached ER (cell x.1 x.2) 0 : sProp 𝕄)), deal]
  iintro ⟨HI, ⟨Hat, #HR⟩, Htok, Hl⟩
  ihave HK := (BI.bigSep_exists_pi Finset.univ (fun (x : Dev nD × Cid) (κ : ℕ) => (cellInv ER (ringRd m) κ (cell x.1 x.2) : sProp 𝕄))) $$ HI
  icases HK with ⟨%K, #HI⟩
  iapply (BI.bigSep_with_persistent (R := records m K) fun c _ => G'_intro m K c)
  isplitr
  · unfold records; isplitl; · iexact HI
    iexact HR
  · unfold linear
    rw [bigSep_sep', bigSep_sep']
    isplitl [Hat]; · iexact Hat
    isplitl [Htok] <;> iassumption

/-- All devices' cells at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  BIBase.Entails.trans (BIBase.Entails.trans (bigSep_mono fun c _ => core_alloc m c) (bigSep_fupd _ _)) (BI.fupd_mono (regroup m))

end Cert.Gemm

end

end
-- ==== Proof.Launch.lean ====
/- The launch: every device's kernel run together, from any memory. -/
module

public import proofs.«01_k».proof.Proof.Deal
public import proofs.«01_k».proof.Proof.Gen.KernelIdeal.Launch
public import proofs.«01_k».proof.Proof.Gen.KernelIdeal.Points
public import Idealize.ShloMosaic.Lib.Pipeline.CollectiveSegs
public import Idealize.ShloMosaic.Lib.Tactic

@[expose] public section

noncomputable section

namespace Cert.Gemm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation BodyObligationLoose cellOf)

variable {F : FTy → Type} [FloatOps F]

local notation "𝕄" => MT nD τ sig ℕ (Elt F) ℕ UU ℕ

variable (m : (ℓ : Loc nD τ sig) → Buf (Elt F) ℓ) (ρ : Dev nD → PrngReg)

/-- The whole of a buffer is all of its columns. -/
theorem cols_all : cols 0 8192 = Finset.univ := by
  ext i
  simp only [mem_cols, Finset.mem_univ, iff_true]
  exact ⟨Nat.zero_le _, (i 1).isLt⟩

/-- The kernel's six buffers, at whatever contents. -/
def bufs (c : Dev nD) : sProp 𝕄 :=
  iprop((∃ f, stPts c f) ∗ (∃ f, xcPts c f) ∗ (∃ f, wcPts c f) ∗ loose .A c ∗ loose .B c ∗ loose .P c)

omit [FloatOps F] in
theorem bufs_eq (c : Dev nD) : (Pipeline.scopedRest (Ix := ℕ) (Name := ℕ) (U := UU) (Lvl := ℕ) (Val := Elt F) cfg0.spec c : sProp 𝕄) = bufs c := by
  rw [scopedRest0_eq]
  unfold bufs loose held
  simp only [cols_all]
  rfl

/-- What a device starts from: its part of the ring, its credit, its operands and its result array. -/
def start (c : Dev nD) : sProp 𝕄 :=
  iprop((G' m c ∗ levAts L lv) ∗ crds c plan ∗ xPts m c ∗ wPts m c ∗ ∃ f, oPts c f)

def Φ₀ (c : Dev nD) : sProp 𝕄 := iprop(start m c ∗ bufs c)
def Φ₁ (c : Dev nD) : sProp 𝕄 := iprop(bufs c ∗ (loc0 c ∗ rested c) ∗ xPts m c ∗ wPts m c ∗ oPts c (res m))

def dats (_ : Fin 1) (c : Dev nD) : Dat τ (Elt F) ℕ ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => owed c plan
    | ⟨_ + 1, _⟩ => 0

theorem bodyAt_eq : bodyAt0 (F := F) t0_0 = onBufs (cc0_body (F := F)) := rfl

/-- The kernel's body, as it is called: no operand is windowed. -/
theorem body_run (c : Dev nD) :
    iprop(Φ₀ m c ∗ (dats m 0 c).owesAt 0 (Fin.castSucc (n := cfg0.N) t0_0) ∗ emp)
      ⊢ WP c (bodyAt0 (F := F) t0_0) fun _ => iprop(Φ₁ m c ∗ (dats m 0 c).owesAt 0 (Fin.succ (n := cfg0.N) t0_0) ∗ emp) := by
  rw [bodyAt_eq]
  unfold Φ₀ Φ₁ start G' bufs Dat.owesAt Pipeline.owesWithin
  rw [show (dats m 0 c).owed (Fin.castSucc (n := cfg0.N) t0_0) = owed c plan from rfl,
    show (dats m 0 c).owed (Fin.succ (n := cfg0.N) t0_0) = 0 from rfl]
  iintro ⟨⟨⟨⟨⟨%K, HI, Hb, H0, H1, Ht, Hl⟩, Hlev⟩, Hc, Hx, Hw, ⟨%fo, Ho⟩⟩, Hs, ⟨%X, Hxc⟩, Hwc, HA, HB, HP⟩, ⟨%W, %hW, HO⟩, -⟩
  iapply (last (body_spec m K (c := c) (X := X))) $$ [HI Hb H0 H1 Ht Hl Hlev Hc Hx Hw Ho Hs Hxc Hwc HA HB HP HO]
  · isplitl [HI Hlev]
    · unfold Env; isplitl [HI] <;> iassumption
    isplitl [Hb H0 H1 Ht Hl Hc Hx Hw Hs Hxc Hwc HO]
    · unfold St Wk Pays
      isplitl [Ht Hl Hx Hw Hs Hxc Hwc HO]
      · isplitl [HO Ht]
        · isplitl [HO]
          · iexists W; iexact HO
          · iexact Ht
        isplitl [Hs]; · iexact Hs
        isplitl [Hwc]; · iexact Hwc
        isplitl [Hxc]; · iexact Hxc
        isplitl [Hx]; · iexact Hx
        isplitl [Hw] <;> iassumption
      isplitl [Hb]; · iexact Hb
      isplitl [H0]; · iexact H0
      isplitl [H1]; · iexact H1
      iexact Hc
    isplitl [HA]; · iexact HA
    isplitl [HB]; · iexact HB
    isplitl [HP]; · iexact HP
    iapply (outs_none m c fo); iexact Ho
  iintro %_ HD
  unfold Done
  icases HD with ⟨⟨%W', HO⟩, Hb, Hr, Hx, Hw, Ho⟩
  isplitl [Hb Hr Hx Hw Ho]
  · isplitl [Hb]; · iexact Hb
    isplitl [Hr]; · iexact Hr
    isplitl [Hx]; · iexact Hx
    isplitl [Hw] <;> iassumption
  isplitl [HO]
  · iexists W'
    isplitr; · ipureintro; exact fun _ _ => Or.inl trivial
    iexact HO
  iempintro

omit [FloatOps F] in
theorem bigSep_none (Φ : Fin cfg0.W → sProp 𝕄) : bigSep Finset.univ Φ = iprop(emp) := BI.bigSep_empty

theorem body_obligation (c : Dev nD) : BodyObligation (dats (F := F) m 0 c) (defs₀ (F := F)) 𝒱₀ 0 Set.univ := fun t => by
  rw [fin_N0 t, bigSep_none, bigSep_none]
  exact body_run m c

/-! ## The sides of the launch -/

theorem start_intro (c : Dev nD) :
    iprop(Pipeline.unscopedRestP Pipeline.Prefetch.none cfg0.spec c (fun b => m ((c : Thread nD τ).loc b)) ∗ levAts L lv
        ∗ Pipeline.launchCred (fun c => owed c plan) c ∗ prngReg c (ρ c) ∗ G' m c)
      ⊢ |={Set.univ}=> iprop(start m c ∗ emp) := by
  rw [Pipeline.unscopedRestP_none, unscopedRest0_eq]
  iintro ⟨⟨Hx, Hw, Ho⟩, Hlev, Hcr, -, HG⟩
  ihave Hc := (creds (F := F) c plan) $$ Hcr
  imodintro
  unfold start
  isplitl
  · isplitl [HG Hlev]
    · isplitl [HG] <;> iassumption
    isplitl [Hc]; · iexact Hc
    isplitl [Hx]; · iexact Hx
    isplitl [Hw]; · iexact Hw
    iexists _; iexact Ho
  · iempintro

theorem start_held (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, bufs_eq]
  unfold Φ₀
  iintro ⟨Hs, -, Hr⟩
  isplitl [Hs] <;> iassumption

/-- What a device has at the end that is not given back. -/
def finish (c : Dev nD) : sProp 𝕄 := iprop(unscopedSems0 c ∗ xPts m c ∗ wPts m c ∗ oPts c (res m))

theorem finish_held (c : Dev nD) : (dats m 0 c).Φ (Fin.last cfg0.N) ⊢ iprop(finish m c ∗ Pipeline.ownSems0 osem c ∗ Pipeline.scopedRest cfg0.spec c) := by
  rw [show (dats m 0 c).Φ (Fin.last cfg0.N) = Φ₁ m c from rfl, bufs_eq, ownSems0_eq]
  unfold Φ₁ finish
  rw [rested_eq, unscopedSems0_eq]
  iintro ⟨Hb, ⟨Hl, Hz, Ho⟩, Hx, Hw, Hr⟩
  isplitl [Hz Hx Hw Hr]
  · isplitl [Hz]; · iexact Hz
    isplitl [Hx]; · iexact Hx
    isplitl [Hw] <;> iassumption
  isplitl [Hl Ho]
  · isplitl [Hl] <;> iassumption
  iexact Hb

theorem waits (c : Dev nD) : (levAts L lv : sProp 𝕄) ⊢ Pipeline.cellsWaits cfgs (dats m) 0 0 c :=
  Pipeline.cellsWaits_intro cfgs (dats m) 0 0 c fun w _ _ => w.elim0

/-- What is read of a device at the end. -/
def Reads (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ s.mem ((c : Thread nD τ).loc main_arg1) = m ((c : Thread nD τ).loc main_arg1)
    ∧ s.mem ((c : Thread nD τ).loc main_v1) = res m

theorem reads (c : Dev nD) (s' : Phys nD τ sig (Elt F)) : iprop(finish m c ∗ emp ∗ SI s') ⊢ (|={Set.univ}=> iprop(⌜Reads m c s'.mem⌝ ∗ SI s') : sProp 𝕄) := by
  unfold finish
  iintro ⟨⟨Hu, Hx, Hw, Ho⟩, -, HSI⟩
  icombine HSI Hx gives %hx
  icombine HSI Hw gives %hw
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro
    exact ⟨hu, Buf.eq_of_forall_mem_univ hx, Buf.eq_of_forall_mem_univ hw, Buf.eq_of_forall_mem_univ ho⟩
  · iexact HSI

def u₀ : UU := (initOf (Pipeline.cells cfgs cellOf_inj) (Pipeline.launchToks cfgs cellOf_inj), (initOf ringCells ringToks, 1))

theorem fund_ring' : BI.own (embR (initOf ringCells ringToks, (1 : Counters))) ⊢ (|==> bigSep Finset.univ (G m) : sProp 𝕄) := fund_ring m

/-! ## The run -/

set_option maxRecDepth 8000 in
/-- On four devices, for any float values, from any memory with zero counters: every weakly fair execution of the program
    ends with every device's operands unchanged, its result array at the matrix product `res`, and every counter at zero. -/
theorem run_main : θ_run defs (onTc (τ := τ) (main (F := F))) ⟨m, fun _ => 0, ρ⟩ (fun r => (∀ c, Reads m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun c w => w.elim0)
    (hdistinct := winFacts0.arr_inj)
    (O₀ := fun c => owed c plan) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring' m) $$ HX with HG
      imodintro
      isplitl [HP] <;> iassumption)
    (hglob := glob m)
    (hA := fun _ w => w.elim0) (hpf := fun _ k => k.elim0)
    (X := start m) (Y := finish m) (Z := fun _ => iprop(emp))
    (hX := start_intro m ρ) (hin := start_held m) (hout := finish_held m)
    (QY := Reads m) (hY := reads m)
    (hQ := fun _ h hs => ⟨fun c => (h c).2.2, sem_eq_zero hs fun c => (h c).2.2.1⟩)

end Cert.Gemm

end

end
-- ==== Proof.Values.lean ====
/- The kernel's result over the extended reals: the product of the whole operands, with negative entries set to zero. -/
module

public import proofs.«01_k».proof.Proof.Tiles
public import Idealize.ShloMosaic.Lib.Layout
public import Idealize.ShloMosaic.Lib.Pointwise

@[expose] public section

noncomputable section

namespace Cert.Gemm

open Cert.KernelIdeal Cert.KernelIdeal.Gen
open Idealize.ShloMosaic Idealize.ShloMosaic.TcCoe

/-! ## One tile at an index -/

/-- A tile product at an index. -/
theorem prod_apply (x w : S1024x1024.Idx → EReal) (i : S1024x1024.Idx) :
    k0_pay5 (F := Ideal) (k0_pay3 (F := Ideal) x) (k0_pay4 (F := Ideal) w) i = ∑ k : Fin 1024, x (ix2 (i 0) k) * w (ix2 k (i 1)) := by
  pointwise [k0_pay5, k0_pay3, k0_pay4]

theorem add_apply (a b : S1024x1024.Idx → EReal) (i : S1024x1024.Idx) : k0_pay18 (F := Ideal) a b i = a i + b i := by
  pointwise [k0_pay18]

theorem addR_apply (a b : S1024x1024.Idx → EReal) (i : S1024x1024.Idx) : k0_pay32 (F := Ideal) a b i = max (a i + b i) 0 := by
  pointwise [k0_pay32]

theorem out_apply (a : S1024x1024.Idx → EReal) (i : S1024x1024.Idx) : k0_pay1 (F := Ideal) a i = a i := by
  pointwise [k0_pay1]

/-! ## The running sums at an index -/

variable (m : (ℓ : Loc nD τ sig) → Buf (Elt Ideal) ℓ)

theorem cmb_apply (f g : Wide Ideal) (i : S1024x8192.Idx) : (cmb f g i : EReal) = f i + g i := by
  refine (add_apply _ _ _).trans ?_
  simp only [tileOf, emb_inTile]

theorem cmbR_apply (f g : Wide Ideal) (i : S1024x8192.Idx) : (cmbR f g i : EReal) = max (f i + g i) 0 := by
  refine (addR_apply _ _ _).trans ?_
  simp only [tileOf, emb_inTile]

/-- The shape of the whole first operand. -/
abbrev SX : Shape := ⟨2, ![4096, 4096]⟩

/-- The `r`-th row of chunk `ch` in the whole, and the `k`-th position of device `c` on the contracted axis: cut alike. -/
def inChunk (ch : Dev nD) (r : Fin 1024) : Fin 4096 :=
  ⟨ch.val * 1024 + r.val, by have : ch.val < 4 := ch.isLt; have := r.isLt; omega⟩

/-- The whole operands' blocks on each device. -/
def Blocks (X : SX.Idx → EReal) (W : S4096x8192.Idx → EReal) : Prop :=
  ∀ c : Dev nD, xbuf m c = Layout.block S4096x1024 SX 1 4 c X ∧ wbuf m c = Layout.block S1024x8192 S4096x8192 0 4 c W

variable {m} {X : SX.Idx → EReal} {W : S4096x8192.Idx → EReal}

/-- Device `c`'s share of an entry of the product. -/
def share (X : SX.Idx → EReal) (W : S4096x8192.Idx → EReal) (r : Fin 4096) (n : Fin 8192) (c : Dev nD) : EReal :=
  ∑ k : Fin 1024, X (ix2 r (inChunk c k)) * W (ix2 (inChunk c k) n)

theorem part_apply (h : Blocks m X W) (c ch : Dev nD) (i : S1024x8192.Idx) :
    (part m c ch i : EReal) = share X W (inChunk ch (i 0)) (i 1) c := by
  refine (prod_apply _ _ _).trans (Finset.sum_congr rfl fun k _ => ?_)
  refine congrArg₂ (· * ·) ?_ ?_
  · refine (congrFun (h c).1 _).trans (congrArg X ?_)
    funext a
    apply Fin.ext
    fin_cases a
    · show 1024 * ch.val + 1 * (i 0).val = ch.val * 1024 + (i 0).val; omega
    · show c.val * 1024 + (0 + 1 * k.val) = c.val * 1024 + k.val; omega
  · refine (congrFun (h c).2 _).trans (congrArg W ?_)
    funext a
    apply Fin.ext
    fin_cases a
    · show c.val * 1024 + (0 + 1 * k.val) = c.val * 1024 + k.val; omega
    · show 1024 * ((i 1).val / 1024) + 1 * ((i 1).val % 1024) = (i 1).val; omega

/-! ## All the shares -/

/-- The shares of the four devices, added in either of the orders of travel. -/
theorem round_sum (g : Dev nD → EReal) (ch : Dev nD) :
    g ch + g (far 1 ch) + g (far 2 ch) + g (far 3 ch) = ∑ c : Dev nD, g c
      ∧ g ch + g (far 3 ch) + g (far 2 ch) + g (far 1 ch) = ∑ c : Dev nD, g c := by
  have e : ∑ c : Dev nD, g c = g (0 : Fin 4) + g (1 : Fin 4) + g (2 : Fin 4) + g (3 : Fin 4) := Fin.sum_univ_four g
  rw [e]
  have hf : ∀ k : Fin 4, (∀ ch : Fin 4, far k.val ch = ch + k) := by decide
  have h₁ := hf 1 ch
  have h₂ := hf 2 ch
  have h₃ := hf 3 ch
  change far 1 ch = _ at h₁
  change far 2 ch = _ at h₂
  change far 3 ch = _ at h₃
  rw [h₁, h₂, h₃]
  have hc : ∀ ch : Fin 4, ch = 0 ∨ ch = 1 ∨ ch = 2 ∨ ch = 3 := by decide
  rcases hc ch with rfl | rfl | rfl | rfl
  · exact ⟨rfl, by rw [show (0 : Fin 4) + 3 = 3 from rfl, show (0 : Fin 4) + 2 = 2 from rfl, show (0 : Fin 4) + 1 = 1 from rfl]; ac_rfl⟩
  · rw [show (1 : Fin 4) + 3 = 0 from rfl, show (1 : Fin 4) + 2 = 3 from rfl, show (1 : Fin 4) + 1 = 2 from rfl]
    exact ⟨by ac_rfl, by ac_rfl⟩
  · rw [show (2 : Fin 4) + 3 = 1 from rfl, show (2 : Fin 4) + 2 = 0 from rfl, show (2 : Fin 4) + 1 = 3 from rfl]
    exact ⟨by ac_rfl, by ac_rfl⟩
  · rw [show (3 : Fin 4) + 3 = 2 from rfl, show (3 : Fin 4) + 2 = 1 from rfl, show (3 : Fin 4) + 1 = 0 from rfl]
    exact ⟨by ac_rfl, by ac_rfl⟩

/-- The shares of the four devices make the whole entry. -/
theorem sum_share (r : Fin 4096) (n : Fin 8192) :
    ∑ c : Dev nD, share X W r n c = ∑ k : Fin 4096, X (ix2 r k) * W (ix2 k n) := by
  unfold share
  rw [← Fintype.sum_prod_type' (fun (c : Dev nD) (k : Fin 1024) => X (ix2 r (inChunk c k)) * W (ix2 (inChunk c k) n))]
  refine Fintype.sum_equiv (finProdFinEquiv (m := 4) (n := 1024)) _ _ fun p => ?_
  have e : inChunk p.1 p.2 = finProdFinEquiv (m := 4) (n := 1024) p := by
    apply Fin.ext
    show p.1.val * 1024 + p.2.val = p.2.val + 1024 * p.1.val
    omega
  rw [e]

theorem sumVia_apply (h : Blocks m X W) (a b : ℕ) (ch : Dev nD) (i : S1024x8192.Idx) :
    (sumVia m a b ch 3 i : EReal)
      = max (share X W (inChunk ch (i 0)) (i 1) ch + share X W (inChunk ch (i 0)) (i 1) (far a ch)
          + share X W (inChunk ch (i 0)) (i 1) (far 2 ch) + share X W (inChunk ch (i 0)) (i 1) (far b ch)) 0 := by
  refine (cmbR_apply _ _ _).trans ?_
  rw [cmb_apply, cmb_apply, part_apply h, part_apply h, part_apply h, part_apply h]

/-- The finished rows of chunk `ch`. -/
theorem fin_apply (h : Blocks m X W) (ch : Dev nD) (i : S1024x8192.Idx) :
    (fin m ch i : EReal) = max (∑ k : Fin 4096, X (ix2 (inChunk ch (i 0)) k) * W (ix2 k (i 1))) 0 := by
  unfold fin half
  split
  · exact (sumVia_apply h 1 3 ch i).trans (congrArg (max · 0) ((round_sum _ ch).1.trans (sum_share _ _)))
  · exact (sumVia_apply h 3 1 ch i).trans (congrArg (max · 0) ((round_sum _ ch).2.trans (sum_share _ _)))

/-- The kernel's result is the product of the whole operands, with negative entries set to zero. -/
theorem res_apply (h : Blocks m X W) (i : S4096x8192.Idx) :
    (res m i : EReal) = max (∑ k : Fin 4096, X (ix2 (i 0) k) * W (ix2 k (i 1))) 0 := by
  refine (out_apply _ _).trans ((fin_apply h _ _).trans ?_)
  have e₀ : inChunk (rowCh i) (((tileR (colT i)).emb (inBlk i)) 0) = i 0 := by
    apply Fin.ext
    show (i 0).val / 1024 * 1024 + (0 + 1 * ((i 0).val % 1024)) = (i 0).val
    omega
  have e₁ : ((tileR (colT i)).emb (inBlk i)) 1 = i 1 := by
    apply Fin.ext
    show 1024 * ((i 1).val / 1024) + 1 * ((i 1).val % 1024) = (i 1).val
    omega
  exact congrArg₂ (fun (r : Fin 4096) (n : Fin 8192) => max (∑ k : Fin 4096, X (ix2 r k) * W (ix2 k n)) 0) e₀ e₁

end Cert.Gemm

end

end
-- ==== Proof.lean ====
/- The claims. The kernel's run, at any float model, is `Cert.Gemm.run_main` (Proof/Launch.lean): every device ends with
   its operands unchanged, every semaphore at zero and its result at `Cert.Gemm.res`. Over the extended reals that result
   is the reference's (Proof/Values.lean). -/
module

public import proofs.«01_k».proof.Defs
public import proofs.«01_k».proof.Proof.Launch
public import proofs.«01_k».proof.Proof.Values
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel over bit patterns runs, keeps its operands and ends with every semaphore at zero. -/
theorem frame_kernel : Cert.quiescent_Kernel := fun m ρ _ =>
  (θ_run Cert.KernelIdeal.defs _ _).mono (fun _ h => ⟨fun c => ⟨(h.1 c).2.1, (h.1 c).2.2.1⟩, h.2⟩) (Cert.Gemm.run_main (F := Bits) m ρ)

/-- So does the kernel over the extended reals, -/
theorem frame_kernelIdeal : Cert.quiescent_KernelIdeal := fun m ρ _ =>
  (θ_run Cert.KernelIdeal.defs _ _).mono (fun _ h => ⟨fun c => ⟨(h.1 c).2.1, (h.1 c).2.2.1⟩, h.2⟩) (Cert.Gemm.run_main (F := Ideal) m ρ)

/-- and the reference, which has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result at an index. -/
theorem ref_apply (X : Cert.ReferenceIdeal.S4096x4096.Idx → EReal) (W : Cert.ReferenceIdeal.S4096x8192.Idx → EReal)
    (h : Cert.ReferenceIdeal.S_.BroadcastsInDim Cert.ReferenceIdeal.S4096x8192 ![]) (i : Cert.ReferenceIdeal.S4096x8192.Idx) :
    maximumf (F := Ideal) (φ := .f32)
        (Host.dotGeneral (F := Ideal) (φ₁ := .f32) (φ₂ := .f32) Cert.ReferenceIdeal.dot_S4096x4096_S4096x8192_S4096x8192_1_0_0_1_n_n none X W)
        (broadcastInDim Cert.ReferenceIdeal.S4096x8192 ![] h
          (constant (F := Ideal) Cert.ReferenceIdeal.S_ .f32 0x00000000#32)) i
      = max (∑ k : Fin 4096, X (ix2 (i 0) k) * W (ix2 k (i 1))) 0 := by
  pointwise

/-- Over the extended reals every device ends with the reference's result. -/
theorem algebraic : Cert.algebraic_KernelIdeal_ReferenceIdeal := by
  intro m ρ m' ρ' _ hm
  refine ⟨_, ?_, (θ_run Cert.ReferenceIdeal.defs _ _).mono (fun _ h => h 0) (Cert.ReferenceIdeal.Value.run (F := Ideal) m' ρ')⟩
  refine (θ_run Cert.KernelIdeal.defs _ _).mono (fun _ h c => ⟨(h.1 c).2.2.2.trans ?_, (h.1 c).2.1, (h.1 c).2.2.1⟩)
    (Cert.Gemm.run_main (F := Ideal) m ρ)
  funext i
  exact (Cert.Gemm.res_apply hm i).trans (ref_apply _ _ _ i).symm

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
